-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S8x1024x2048 : Shape := ⟨3, ![8, 1024, 2048]⟩
abbrev S8x16x16 : Shape := ⟨3, ![8, 16, 16]⟩
abbrev S1x2048x128 : Shape := ⟨3, ![1, 2048, 128]⟩
abbrev S1x128x2048 : Shape := ⟨3, ![1, 128, 2048]⟩
abbrev S1x16x16 : Shape := ⟨3, ![1, 16, 16]⟩
abbrev S2048x128 : Shape := ⟨2, ![2048, 128]⟩
abbrev S128x4096 : Shape := ⟨2, ![128, 4096]⟩
abbrev S2048x256 : Shape := ⟨2, ![2048, 256]⟩
abbrev S16x256 : Shape := ⟨2, ![16, 256]⟩
abbrev S16x128 : Shape := ⟨2, ![16, 128]⟩
abbrev S16x16 : Shape := ⟨2, ![16, 16]⟩
abbrev S16x128x128 : Shape := ⟨3, ![16, 128, 128]⟩
abbrev S16 : Shape := ⟨1, ![16]⟩
abbrev S16x1 : Shape := ⟨2, ![16, 1]⟩
abbrev S1x128x128 : Shape := ⟨3, ![1, 128, 128]⟩
abbrev S128x128 : Shape := ⟨2, ![128, 128]⟩
abbrev S1x256 : Shape := ⟨2, ![1, 256]⟩
abbrev S1x128 : Shape := ⟨2, ![1, 128]⟩
abbrev S64x128 : Shape := ⟨2, ![64, 128]⟩
abbrev S16x1x128 : Shape := ⟨3, ![16, 1, 128]⟩
abbrev S1x64x128 : Shape := ⟨3, ![1, 64, 128]⟩
abbrev S128x256 : Shape := ⟨2, ![128, 256]⟩
abbrev S16x128x256 : Shape := ⟨3, ![16, 128, 256]⟩
abbrev S256 : Shape := ⟨1, ![256]⟩

abbrev nBuf : Space → Nat
  | .hbm => 10
  | .vmem => 26
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x1024x2048, .fp8e4m3⟩
  | .hbm, ⟨5, _⟩ => ⟨S8x16x16, .f32⟩
  | .hbm, ⟨6, _⟩ => ⟨S8x1024x2048, .fp8e4m3⟩
  | .hbm, ⟨7, _⟩ => ⟨S8x16x16, .f32⟩
  | .hbm, ⟨8, _⟩ => ⟨S8x1024x2048, .fp8e4m3⟩
  | .hbm, ⟨9, _⟩ => ⟨S8x16x16, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x128x2048, .fp8e4m3⟩
  | .local _ .vmem, ⟨9, _⟩ => ⟨S1x128x2048, .fp8e4m3⟩
  | .local _ .vmem, ⟨10, _⟩ => ⟨S1x16x16, .f32⟩
  | .local _ .vmem, ⟨11, _⟩ => ⟨S1x16x16, .f32⟩
  | .local _ .vmem, ⟨12, _⟩ => ⟨S1x128x2048, .fp8e4m3⟩
  | .local _ .vmem, ⟨13, _⟩ => ⟨S1x128x2048, .fp8e4m3⟩
  | .local _ .vmem, ⟨14, _⟩ => ⟨S1x16x16, .f32⟩
  | .local _ .vmem, ⟨15, _⟩ => ⟨S1x16x16, .f32⟩
  | .local _ .vmem, ⟨16, _⟩ => ⟨S1x128x2048, .fp8e4m3⟩
  | .local _ .vmem, ⟨17, _⟩ => ⟨S1x128x2048, .fp8e4m3⟩
  | .local _ .vmem, ⟨18, _⟩ => ⟨S1x16x16, .f32⟩
  | .local _ .vmem, ⟨19, _⟩ => ⟨S1x16x16, .f32⟩
  | .local _ .vmem, ⟨20, _⟩ => ⟨S2048x128, .fp8e4m3⟩
  | .local _ .vmem, ⟨21, _⟩ => ⟨S128x4096, .fp8e4m3⟩
  | .local _ .vmem, ⟨22, _⟩ => ⟨S2048x256, .f32⟩
  | .local _ .vmem, ⟨23, _⟩ => ⟨S16x256, .f32⟩
  | .local _ .vmem, ⟨24, _⟩ => ⟨S16x256, .f32⟩
  | .local _ .vmem, ⟨25, _⟩ => ⟨S16x256, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_788 : BitVec 32 := 0#32
  let c16_i32_789 : BitVec 32 := 16#32
  let v1963 : BitVec 32 := Scalar.addi c0_i32_788 c16_i32_789
  let c1_i32_790 : BitVec 32 := 1#32
  ⟨c0_i32_788, v1963, c1_i32_790⟩
def k0_mult1 (k0_t1 : Fin k0_t1_loop.trips) : BitVec 32 :=
  let c0_i32_788 : BitVec 32 := 0#32
  let c1_i32_790 : BitVec 32 := 1#32
  let arg18 : BitVec 32 := Scf.iv c0_i32_788 c1_i32_790 k0_t1
  let c256_i32 : BitVec 32 := 256#32
  let v1965 : BitVec 32 := Scalar.muli arg18 c256_i32
  v1965
def k0_off1 (k0_t1 : Fin k0_t1_loop.trips) : Fin 2 → Nat :=
  let c0_794 : Index := 0#32
  let c0_i32_788 : BitVec 32 := 0#32
  let c1_i32_790 : BitVec 32 := 1#32
  let arg18 : BitVec 32 := Scf.iv c0_i32_788 c1_i32_790 k0_t1
  let c256_i32 : BitVec 32 := 256#32
  let v1965 : BitVec 32 := Scalar.muli arg18 c256_i32
  let v1966 : BitVec 32 := v1965
  let v1967 : Index := Scalar.indexCast v1966
  ![0, v1967.toNat]
def k0_off2 (k0_t1 : Fin k0_t1_loop.trips) : Fin 2 → Nat :=
  let c0_i32_788 : BitVec 32 := 0#32
  let c1_i32_790 : BitVec 32 := 1#32
  let arg18 : BitVec 32 := Scf.iv c0_i32_788 c1_i32_790 k0_t1
  let v1973 : Index := Scalar.indexCast arg18
  let c0_798 : Index := 0#32
  ![v1973.toNat, 0]
def k0_mult2 (k0_t1 : Fin k0_t1_loop.trips) : BitVec 32 :=
  let c0_i32_788 : BitVec 32 := 0#32
  let c1_i32_790 : BitVec 32 := 1#32
  let arg18 : BitVec 32 := Scf.iv c0_i32_788 c1_i32_790 k0_t1
  let c128_i32_1064 : BitVec 32 := 128#32
  let v2676 : BitVec 32 := Scalar.muli arg18 c128_i32_1064
  v2676
def k0_off3 (k0_t1 : Fin k0_t1_loop.trips) : Fin 3 → Nat :=
  let c0_1065 : Index := 0#32
  let c0_i32_788 : BitVec 32 := 0#32
  let c1_i32_790 : BitVec 32 := 1#32
  let arg18 : BitVec 32 := Scf.iv c0_i32_788 c1_i32_790 k0_t1
  let c128_i32_1064 : BitVec 32 := 128#32
  let v2676 : BitVec 32 := Scalar.muli arg18 c128_i32_1064
  let v2677 : BitVec 32 := v2676
  let v2678 : Index := Scalar.indexCast v2677
  let c0_1066 : Index := 0#32
  ![0, v2678.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x2048x1024 : Shape := ⟨3, ![8, 2048, 1024]⟩
abbrev S8x1024x2048 : Shape := ⟨3, ![8, 1024, 2048]⟩
abbrev S8x16x16 : Shape := ⟨3, ![8, 16, 16]⟩
abbrev S8x16x128x16x64 : Shape := ⟨5, ![8, 16, 128, 16, 64]⟩
abbrev S8x16x128x16 : Shape := ⟨4, ![8, 16, 128, 16]⟩
abbrev S254x8x16x16 : Shape := ⟨4, ![254, 8, 16, 16]⟩
abbrev S1x8x16x16 : Shape := ⟨4, ![1, 8, 16, 16]⟩
abbrev S8x16x1x16x1 : Shape := ⟨5, ![8, 16, 1, 16, 1]⟩
abbrev S8x16x64x16x128 : Shape := ⟨5, ![8, 16, 64, 16, 128]⟩
abbrev S8x16x16x128x64 : Shape := ⟨5, ![8, 16, 16, 128, 64]⟩
abbrev S128x2048x64 : Shape := ⟨3, ![128, 2048, 64]⟩
abbrev S128x16 : Shape := ⟨2, ![128, 16]⟩
abbrev S128x2048x2048 : Shape := ⟨3, ![128, 2048, 2048]⟩
abbrev S128x16x128x16x128 : Shape := ⟨5, ![128, 16, 128, 16, 128]⟩
abbrev S128x16x1x1x1 : Shape := ⟨5, ![128, 16, 1, 1, 1]⟩
abbrev S128x1x1x16x1 : Shape := ⟨5, ![128, 1, 1, 16, 1]⟩
abbrev S128x16x1x16x1 : Shape := ⟨5, ![128, 16, 1, 16, 1]⟩
abbrev S128x16x128x16 : Shape := ⟨4, ![128, 16, 128, 16]⟩
abbrev S128x16x128 : Shape := ⟨3, ![128, 16, 128]⟩
abbrev S128x16x128x1x1 : Shape := ⟨5, ![128, 16, 128, 1, 1]⟩
abbrev S128x16x16 : Shape := ⟨3, ![128, 16, 16]⟩
abbrev S254x128x16x16 : Shape := ⟨4, ![254, 128, 16, 16]⟩
abbrev S1x128x16x16 : Shape := ⟨4, ![1, 128, 16, 16]⟩
abbrev S128x16x16x128x128 : Shape := ⟨5, ![128, 16, 16, 128, 128]⟩
abbrev S2048x2048x128 : Shape := ⟨3, ![2048, 2048, 128]⟩
abbrev S2048x128x64 : Shape := ⟨3, ![2048, 128, 64]⟩
abbrev S2048x2048x64 : Shape := ⟨3, ![2048, 2048, 64]⟩
abbrev S128x1x16 : Shape := ⟨3, ![128, 1, 16]⟩
abbrev S128x16x16x128x64 : Shape := ⟨5, ![128, 16, 16, 128, 64]⟩
abbrev S128x16x16x1x1 : Shape := ⟨5, ![128, 16, 16, 1, 1]⟩
abbrev S128x16x128x64 : Shape := ⟨4, ![128, 16, 128, 64]⟩
abbrev S128x16x128x1 : Shape := ⟨4, ![128, 16, 128, 1]⟩
abbrev S8x16x2048x64 : Shape := ⟨4, ![8, 16, 2048, 64]⟩
abbrev S8x2048x16x64 : Shape := ⟨4, ![8, 2048, 16, 64]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x1024x2048, .fp8e4m3⟩
  | .hbm, ⟨5, _⟩ => ⟨S8x16x16, .f32⟩
  | .hbm, ⟨6, _⟩ => ⟨S8x1024x2048, .fp8e4m3⟩
  | .hbm, ⟨7, _⟩ => ⟨S8x16x16, .f32⟩
  | .hbm, ⟨8, _⟩ => ⟨S8x1024x2048, .fp8e4m3⟩
  | .hbm, ⟨9, _⟩ => ⟨S8x16x16, .f32⟩
  | .local _ .vmem, ⟨0, _⟩ => ⟨S8x2048x1024, .bf16⟩
  | .local _ .vmem, ⟨1, _⟩ => ⟨S8x2048x1024, .bf16⟩
  | .local _ .vmem, ⟨2, _⟩ => ⟨S8x2048x1024, .bf16⟩
  | .local _ .vmem, ⟨3, _⟩ => ⟨S8x2048x1024, .bf16⟩
  | .local _ .vmem, ⟨4, _⟩ => ⟨S8x1024x2048, .fp8e4m3⟩
  | .local _ .vmem, ⟨5, _⟩ => ⟨S8x16x16, .f32⟩
  | .local _ .vmem, ⟨6, _⟩ => ⟨S8x1024x2048, .fp8e4m3⟩
  | .local _ .vmem, ⟨7, _⟩ => ⟨S8x16x16, .f32⟩
  | .local _ .vmem, ⟨8, _⟩ => ⟨S8x1024x2048, .fp8e4m3⟩
  | .local _ .vmem, ⟨9, _⟩ => ⟨S8x16x16, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Machine.Loops.lean ====
/- Text of the proof generator, written with its test on scratch read back in a loop relaxed for `arg14` (it refuses this
   kernel otherwise), then copied here with the imports renamed and the `#` lines left out; not regenerated: the COUNTED LOOPS of `proofs.«01_k».proof.Kernel` as
   obligations — per `scf.for` the class of its invariants `Gen.LoopInvTy_kK_tN` (Lib/Exec.lean `LoopInv` at the
   run's frame and clauses and the loop's lifted region `Gen.kK_tN_body`, Skeleton.lean), with what one trip of
   the region does listed in its docstring. A certificate instances each (`@[sl_loop] def … : Gen.LoopInvTy_kK_tN …
   := ⟨inv, step⟩`, the stub `bootstrap` writes) and `sl_exec` goes through the loop by it, ONCE per trip over a
   symbolic trip — never unrolled. -/
module

public import proofs.«01_k».proof.Proof.Gen.Kernel.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_fp8_attention` -/

/-- The class of invariants of `cc0_fp8_attention`'s counted loop `k0_t1_loop` (`scf.for %arg18 =
   %c0_i32_788 to %1963 step %c1_i32_790 : i32 {`), trip `k0_t1`, carrying `Unit`, region
   `Gen.k0_t1_body`. Classifier: AFFINE — every store at a `Rect.unit` whose offsets are a stated
   closed form of the trips, nothing carried, no transfer or conditional inside: the invariant is
   the pieces of the trips before `k`. The region loads back what
   it stores into `arg14` and uses it: the tiles of a trip cover the scratch before it is read, so the
   pieces do not depend on what the memref held, as the proof below checks. One trip calls the parts `k0_part1`, `k0_part2`,
   `k0_part3`, `k0_part4`, `k0_part5`, `k0_part6`, `k0_part7`, `k0_part8`, `k0_part9`, `k0_part10`,
   `k0_part11`, `k0_part12`, `k0_part13`, `k0_part14`, `k0_part15`, `k0_part16`. Per trip it STORES
   through arg14 at ![0, 0]; arg5 at (k0_off3 k0_t1). It LOADS through arg12 at ![0, 0]; arg13 at
   (k0_off1 k0_t1); arg14 at ![0, 0]; arg15 at (k0_off2 k0_t1); arg16 at ![0, 0]; arg17 at ![0, 0];
   arg10 at ![0, 0, 0]; arg10 at ![0, 64, 0]; arg14 at ![128, 0]; arg10 at ![0, 0, 128]; arg10 at
   ![0, 64, 128]; arg14 at ![256, 0]; and more. Below: `Gen.loopInv_k0_t1` (`@[sl_loop]`),
   at the frame kit's algebra — a run at that algebra (the generated frame's, or a hand proof's over
   `MT nD τ sig Unit (Elt F) ℕ (UR sig nD τ) ℕ`) goes through the loop with nothing more to state; a
   proof at another algebra instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788)

/-! ### `k0_t1_loop`: the generated invariant (classifier: affine) -/

/-- One trip's resources: what the region reads (arg10, arg12, arg13, arg15, arg16, arg17) at its
   contents, what it writes (arg5, arg14) at any. -/
abbrev Trip_k0_t1 (c : Dev nD) (arg10 : Memref sig .tc .vmem S1x128x2048 .fp8e4m3) (arg12 : Memref sig .tc .vmem S2048x128 .fp8e4m3) (arg13 : Memref sig .tc .vmem S128x4096 .fp8e4m3) (arg15 : Memref sig .tc .vmem S16x256 .f32) (arg16 : Memref sig .tc .vmem S16x256 .f32) (arg17 : Memref sig .tc .vmem S16x256 .f32) (arg5 : Memref sig .tc .vmem S1x2048x128 .bf16) (arg14 : Memref sig .tc .vmem S2048x256 .f32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (f_arg5 : BufTy.Contents (Elt F) arg5.view.ty) (f_arg14 : BufTy.Contents (Elt F) arg14.view.ty) : sProp 𝕄G :=
  iprop((arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg5.view.loc (c : Thread nD τ) ↦[arg5.view.set]{fullShare} f_arg5) ∗ (arg14.view.loc (c : Thread nD τ) ↦[arg14.view.set]{fullShare} f_arg14))

/-- ONE TRIP of `k0_t1_loop` at a symbolic `k`, run by `sl_exec` (its rectangles' offsets closed
   forms of `k`, their geometry linear arithmetic): the pieces it writes into arg5, arg14 are the
   run's own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : Fin k0_t1_loop.trips) :
    Σ' (L_arg5 : List (View.Piece (Elt F) S1x2048x128 .bf16)) , { L_arg14 : List (View.Piece (Elt F) S2048x256 .f32) // ∀ (E : Set ℕ) (f_arg5 : BufTy.Contents (Elt F) arg5.view.ty) (f_arg14 : BufTy.Contents (Elt F) arg14.view.ty),
      Trip_k0_t1 (F := F) c arg10 arg12 arg13 arg15 arg16 arg17 arg5 arg14 X_arg10 X_arg12 X_arg13 X_arg15 X_arg16 X_arg17 f_arg5 f_arg14
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 k PUnit.unit)
          (fun _ => Trip_k0_t1 (F := F) c arg10 arg12 arg13 arg15 arg16 arg17 arg5 arg14 X_arg10 X_arg12 X_arg13 X_arg15 X_arg16 X_arg17 (arg5.view.writes (Elt F) f_arg5 L_arg5) (arg14.view.writes (Elt F) f_arg14 L_arg14)) } := by
  have hk : k.val < 16 := Nat.lt_of_lt_of_le k.isLt k0_t1_abs.2.1
  refine ⟨?_, ?_, fun E f_arg5 f_arg14 => ?run⟩
  case run =>
    unfold k0_t1_body
    iintro ⟨HR_arg10, HR_arg12, HR_arg13, HR_arg15, HR_arg16, HR_arg17, HW_arg5, HW_arg14⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : Fin k0_t1_loop.trips) : List (View.Piece (Elt F) S1x2048x128 .bf16) × List (View.Piece (Elt F) S2048x256 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : ℕ) (prev : List (View.Piece (Elt F) S1x2048x128 .bf16) × List (View.Piece (Elt F) S2048x256 .f32)) : List (View.Piece (Elt F) S1x2048x128 .bf16) × List (View.Piece (Elt F) S2048x256 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 ⟨k, h⟩).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 ⟨k, h⟩).2 ++ prev.2)
  else prev

/-- The pieces of the trips before `k` (last first), per written memref. -/
def pb_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) : ℕ → List (View.Piece (Elt F) S1x2048x128 .bf16) × List (View.Piece (Elt F) S2048x256 .f32)
  | 0 => ([], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k)

theorem pb_k0_t1_succ (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k.val).2) := by
  rw [pb_k0_t1.eq_2]; unfold pb_k0_t1Step; exact dif_pos k.isLt

/-- THE INVARIANT before trip `k`: arg10, arg12, arg13, arg15, arg16, arg17 read at `X_·`; arg5,
   arg14 holding the pieces of the trips before `k` written over the contents at loop entry `G_·`
   (stated `∃ f, … ∗ ⌜f = …⌝`, so that a hypothesis of any contents matches and the equation is what
   is proved). -/
abbrev inv_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (G_arg5 : BufTy.Contents (Elt F) arg5.view.ty) (G_arg14 : BufTy.Contents (Elt F) arg14.view.ty) (k : ℕ) (_u : PUnit) : sProp 𝕄G :=
  iprop((arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg5.view.loc (c : Thread nD τ) ↦[arg5.view.set]{fullShare} f) ∗ ⌜f = arg5.view.writes (Elt F) G_arg5 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1⌝) ∗ (∃ f, (arg14.view.loc (c : Thread nD τ) ↦[arg14.view.set]{fullShare} f) ∗ ⌜f = arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (G_arg5 : BufTy.Contents (Elt F) arg5.view.ty) (G_arg14 : BufTy.Contents (Elt F) arg14.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 G_arg5 G_arg14
  step k acc := by
    iintro ⟨HR_arg10, HR_arg12, HR_arg13, HR_arg15, HR_arg16, HR_arg17, ⟨%f_arg5, HW_arg5, %h_arg5⟩, ⟨%f_arg14, HW_arg14, %h_arg14⟩⟩
    iapply (wp_wand_r Idealize.ShloMosaic.frame (wpE (defs₀ (F := F)) 𝒱 (c : Thread nD τ) bd) E)
    isplitl [HR_arg10 HR_arg12 HR_arg13 HR_arg15 HR_arg16 HR_arg17 HW_arg5 HW_arg14]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2.2 E f_arg5 f_arg14)
      isplitl [HR_arg10]; · iexact HR_arg10
      isplitl [HR_arg12]; · iexact HR_arg12
      isplitl [HR_arg13]; · iexact HR_arg13
      isplitl [HR_arg15]; · iexact HR_arg15
      isplitl [HR_arg16]; · iexact HR_arg16
      isplitl [HR_arg17]; · iexact HR_arg17
      isplitl [HW_arg5]; · iexact HW_arg5
      iexact HW_arg14
    · iintro %_ ⟨HR_arg10, HR_arg12, HR_arg13, HR_arg15, HR_arg16, HR_arg17, HW_arg5, HW_arg14⟩
      isplitl [HR_arg10]; · iexact HR_arg10
      isplitl [HR_arg12]; · iexact HR_arg12
      isplitl [HR_arg13]; · iexact HR_arg13
      isplitl [HR_arg15]; · iexact HR_arg15
      isplitl [HR_arg16]; · iexact HR_arg16
      isplitl [HR_arg17]; · iexact HR_arg17
      rw [pb_k0_t1_succ]
      isplitl [HW_arg5]
      · iexists _; isplitl [HW_arg5]; · iexact HW_arg5
        ipureintro; rw [h_arg5, ← View.writes_append]
      iexists _; isplitl [HW_arg14]; · iexact HW_arg14
      ipureintro; rw [h_arg14, ← View.writes_append]

end Cert.Kernel.Gen

end
-- ==== Proof.Machine.Runs.lean ====
/- Text of the proof generator, written with its test on scratch read back in a loop relaxed for `arg14` (it refuses this
   kernel otherwise), then copied here with the imports renamed and the `#` lines left out; not regenerated: what the runs of `proofs.«01_k».proof.Kernel`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Gen.Kernel.Launch
public import proofs.«01_k».proof.Proof.Gen.Kernel.Skeleton
public import proofs.«01_k».proof.Proof.Machine.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_2 : ∀ t : Fin cfg0.N, cond0_2 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x16 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x128 .fp8e4m3 := Memref.whole cc0_scratch0
abbrev scM0_1 : Memref sig .tc .vmem S128x4096 .fp8e4m3 := Memref.whole cc0_scratch1
abbrev scM0_2 : Memref sig .tc .vmem S2048x256 .f32 := Memref.whole cc0_scratch2
abbrev scM0_3 : Memref sig .tc .vmem S16x256 .f32 := Memref.whole cc0_scratch3
abbrev scM0_4 : Memref sig .tc .vmem S16x256 .f32 := Memref.whole cc0_scratch4
abbrev scM0_5 : Memref sig .tc .vmem S16x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.Machine.RunA.lean ====
/- Text of the proof generator, written with its test on scratch read back in a loop relaxed for `arg14` (it refuses this
   kernel otherwise), then copied here with the imports renamed and the `#` lines left out; not regenerated: the whole-body RUN of `proofs.«01_k».proof.Kernel`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Machine.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2128000 in
/-- The body's triple IN CASE A (`scf.if` 0 taken, `scf.if` 1 taken, `scf.if` 2 taken: points 0, 8, … 56: 8 of 64): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_fp8_attention_eq_skeleton]; unfold cc0_fp8_attention_skel
    simp only [k0_part65_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.Machine.RunB.lean ====
/- Text of the proof generator, written with its test on scratch read back in a loop relaxed for `arg14` (it refuses this
   kernel otherwise), then copied here with the imports renamed and the `#` lines left out; not regenerated: the whole-body RUN of `proofs.«01_k».proof.Kernel`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Machine.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2092000 in
/-- The body's triple IN CASE B (`scf.if` 0 not taken, `scf.if` 1 not taken, `scf.if` 2 not taken: points 1, 2, … 63: 56 of 64): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_fp8_attention_eq_skeleton]; unfold cc0_fp8_attention_skel
    simp only [k0_part65_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.Machine.Frame.lean ====
/- Text of the proof generator, written with its test on scratch read back in a loop relaxed for `arg14` (it refuses this
   kernel otherwise), then copied here with the imports renamed and the `#` lines left out; not regenerated: the FRAME CERTIFICATE of `proofs.«01_k».proof.Kernel`,
   its last module — (the outputs' contents FORGOTTEN, stated nowhere) what a carried scratch, if any, holds point by point
   (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), its OUTPUTS FORGOTTEN (windows 3, 4, 5, 6, 7, 8, 9: nothing in the directory reads what the kernel leaves there —
   Lib/Pipeline/Dat.lean `Dat.toRForget`), the whole certificate: the body's triple per case (`Gen.kernelRunK_κ`, by
   `sl_exec`; each output handed back at some contents, nothing of it named), the conditions in closed form (`Gen.hcondK_J`),
   the proof data (the outputs at `Dat.unnamed`), the obligation over `Gen.forgetsK`, the run (`Gen.run_main`, by
   `θ_run_frame_forget`) and `Gen.frame` — the frame claim at any `F`: Proof.lean is
   `theorem Cert.Proof.claim : Cert.Claim := ⟨Gen.facts, fun m ρ _ => Gen.frame m ρ⟩`.
   CLASS R (2 cases of its conditionals, 6 scratch operands, outputs 3, 4, 5, 6, 7, 8, 9 FORGOTTEN — nothing reads them, so nothing of their contents is named): the certificate is whole here — not class A: the kernel takes operands the pipeline does not stage (scratch, semaphores, tables, arrays left in HBM). -/
module

public import proofs.«01_k».proof.Proof.Machine.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · by_cases h1 : t.val % 8 = 0
    · by_cases h2 : t.val % 8 = 0
      · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, HS0, HS1, HS2, HS3, HS4, HS5⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · exfalso; omega
    · exfalso; omega
  · by_cases h1 : t.val % 8 = 0
    · exfalso; omega
    · by_cases h2 : t.val % 8 = 0
      · exfalso; omega
      · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, HS0, HS1, HS2, HS3, HS4, HS5⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Exact.Loops.lean ====
/- Text of the proof generator, written with its test on scratch read back in a loop relaxed for `arg14` (it refuses this
   kernel otherwise), then copied here with the imports renamed and the `#` lines left out; not regenerated: the COUNTED LOOPS of `proofs.«01_k».proof.KernelIdeal` as
   obligations — per `scf.for` the class of its invariants `Gen.LoopInvTy_kK_tN` (Lib/Exec.lean `LoopInv` at the
   run's frame and clauses and the loop's lifted region `Gen.kK_tN_body`, Skeleton.lean), with what one trip of
   the region does listed in its docstring. A certificate instances each (`@[sl_loop] def … : Gen.LoopInvTy_kK_tN …
   := ⟨inv, step⟩`, the stub `bootstrap` writes) and `sl_exec` goes through the loop by it, ONCE per trip over a
   symbolic trip — never unrolled. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_fp8_attention` -/

/-- The class of invariants of `cc0_fp8_attention`'s counted loop `k0_t1_loop` (`scf.for %arg18 =
   %c0_i32_788 to %1963 step %c1_i32_790 : i32 {`), trip `k0_t1`, carrying `Unit`, region
   `Gen.k0_t1_body`. Classifier: AFFINE — every store at a `Rect.unit` whose offsets are a stated
   closed form of the trips, nothing carried, no transfer or conditional inside: the invariant is
   the pieces of the trips before `k`. The region loads back what
   it stores into `arg14` and uses it: the tiles of a trip cover the scratch before it is read, so the
   pieces do not depend on what the memref held, as the proof below checks. One trip calls the parts `k0_part1`, `k0_part2`,
   `k0_part3`, `k0_part4`, `k0_part5`, `k0_part6`, `k0_part7`, `k0_part8`, `k0_part9`, `k0_part10`,
   `k0_part11`, `k0_part12`, `k0_part13`, `k0_part14`, `k0_part15`, `k0_part16`. Per trip it STORES
   through arg14 at ![0, 0]; arg5 at (k0_off3 k0_t1). It LOADS through arg12 at ![0, 0]; arg13 at
   (k0_off1 k0_t1); arg14 at ![0, 0]; arg15 at (k0_off2 k0_t1); arg16 at ![0, 0]; arg17 at ![0, 0];
   arg10 at ![0, 0, 0]; arg10 at ![0, 64, 0]; arg14 at ![128, 0]; arg10 at ![0, 0, 128]; arg10 at
   ![0, 64, 128]; arg14 at ![256, 0]; and more. Below: `Gen.loopInv_k0_t1` (`@[sl_loop]`),
   at the frame kit's algebra — a run at that algebra (the generated frame's, or a hand proof's over
   `MT nD τ sig Unit (Elt F) ℕ (UR sig nD τ) ℕ`) goes through the loop with nothing more to state; a
   proof at another algebra instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788)

/-! ### `k0_t1_loop`: the generated invariant (classifier: affine) -/

/-- One trip's resources: what the region reads (arg10, arg12, arg13, arg15, arg16, arg17) at its
   contents, what it writes (arg5, arg14) at any. -/
abbrev Trip_k0_t1 (c : Dev nD) (arg10 : Memref sig .tc .vmem S1x128x2048 .fp8e4m3) (arg12 : Memref sig .tc .vmem S2048x128 .fp8e4m3) (arg13 : Memref sig .tc .vmem S128x4096 .fp8e4m3) (arg15 : Memref sig .tc .vmem S16x256 .f32) (arg16 : Memref sig .tc .vmem S16x256 .f32) (arg17 : Memref sig .tc .vmem S16x256 .f32) (arg5 : Memref sig .tc .vmem S1x2048x128 .bf16) (arg14 : Memref sig .tc .vmem S2048x256 .f32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (f_arg5 : BufTy.Contents (Elt F) arg5.view.ty) (f_arg14 : BufTy.Contents (Elt F) arg14.view.ty) : sProp 𝕄G :=
  iprop((arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg5.view.loc (c : Thread nD τ) ↦[arg5.view.set]{fullShare} f_arg5) ∗ (arg14.view.loc (c : Thread nD τ) ↦[arg14.view.set]{fullShare} f_arg14))

/-- ONE TRIP of `k0_t1_loop` at a symbolic `k`, run by `sl_exec` (its rectangles' offsets closed
   forms of `k`, their geometry linear arithmetic): the pieces it writes into arg5, arg14 are the
   run's own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : Fin k0_t1_loop.trips) :
    Σ' (L_arg5 : List (View.Piece (Elt F) S1x2048x128 .bf16)) , { L_arg14 : List (View.Piece (Elt F) S2048x256 .f32) // ∀ (E : Set ℕ) (f_arg5 : BufTy.Contents (Elt F) arg5.view.ty) (f_arg14 : BufTy.Contents (Elt F) arg14.view.ty),
      Trip_k0_t1 (F := F) c arg10 arg12 arg13 arg15 arg16 arg17 arg5 arg14 X_arg10 X_arg12 X_arg13 X_arg15 X_arg16 X_arg17 f_arg5 f_arg14
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 k PUnit.unit)
          (fun _ => Trip_k0_t1 (F := F) c arg10 arg12 arg13 arg15 arg16 arg17 arg5 arg14 X_arg10 X_arg12 X_arg13 X_arg15 X_arg16 X_arg17 (arg5.view.writes (Elt F) f_arg5 L_arg5) (arg14.view.writes (Elt F) f_arg14 L_arg14)) } := by
  have hk : k.val < 16 := Nat.lt_of_lt_of_le k.isLt k0_t1_abs.2.1
  refine ⟨?_, ?_, fun E f_arg5 f_arg14 => ?run⟩
  case run =>
    unfold k0_t1_body
    iintro ⟨HR_arg10, HR_arg12, HR_arg13, HR_arg15, HR_arg16, HR_arg17, HW_arg5, HW_arg14⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : Fin k0_t1_loop.trips) : List (View.Piece (Elt F) S1x2048x128 .bf16) × List (View.Piece (Elt F) S2048x256 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : ℕ) (prev : List (View.Piece (Elt F) S1x2048x128 .bf16) × List (View.Piece (Elt F) S2048x256 .f32)) : List (View.Piece (Elt F) S1x2048x128 .bf16) × List (View.Piece (Elt F) S2048x256 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 ⟨k, h⟩).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 ⟨k, h⟩).2 ++ prev.2)
  else prev

/-- The pieces of the trips before `k` (last first), per written memref. -/
def pb_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) : ℕ → List (View.Piece (Elt F) S1x2048x128 .bf16) × List (View.Piece (Elt F) S2048x256 .f32)
  | 0 => ([], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k)

theorem pb_k0_t1_succ (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k.val).2) := by
  rw [pb_k0_t1.eq_2]; unfold pb_k0_t1Step; exact dif_pos k.isLt

/-- THE INVARIANT before trip `k`: arg10, arg12, arg13, arg15, arg16, arg17 read at `X_·`; arg5,
   arg14 holding the pieces of the trips before `k` written over the contents at loop entry `G_·`
   (stated `∃ f, … ∗ ⌜f = …⌝`, so that a hypothesis of any contents matches and the equation is what
   is proved). -/
abbrev inv_k0_t1 (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (G_arg5 : BufTy.Contents (Elt F) arg5.view.ty) (G_arg14 : BufTy.Contents (Elt F) arg14.view.ty) (k : ℕ) (_u : PUnit) : sProp 𝕄G :=
  iprop((arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg5.view.loc (c : Thread nD τ) ↦[arg5.view.set]{fullShare} f) ∗ ⌜f = arg5.view.writes (Elt F) G_arg5 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1⌝) ∗ (∃ f, (arg14.view.loc (c : Thread nD τ) ↦[arg14.view.set]{fullShare} f) ∗ ⌜f = arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (c0_i32_788 : BitVec 32) (X_arg10 : BufTy.Contents (Elt F) arg10.view.ty) (X_arg12 : BufTy.Contents (Elt F) arg12.view.ty) (X_arg13 : BufTy.Contents (Elt F) arg13.view.ty) (X_arg15 : BufTy.Contents (Elt F) arg15.view.ty) (X_arg16 : BufTy.Contents (Elt F) arg16.view.ty) (X_arg17 : BufTy.Contents (Elt F) arg17.view.ty) (G_arg5 : BufTy.Contents (Elt F) arg5.view.ty) (G_arg14 : BufTy.Contents (Elt F) arg14.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 G_arg5 G_arg14
  step k acc := by
    iintro ⟨HR_arg10, HR_arg12, HR_arg13, HR_arg15, HR_arg16, HR_arg17, ⟨%f_arg5, HW_arg5, %h_arg5⟩, ⟨%f_arg14, HW_arg14, %h_arg14⟩⟩
    iapply (wp_wand_r Idealize.ShloMosaic.frame (wpE (defs₀ (F := F)) 𝒱 (c : Thread nD τ) bd) E)
    isplitl [HR_arg10 HR_arg12 HR_arg13 HR_arg15 HR_arg16 HR_arg17 HW_arg5 HW_arg14]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).2.2 E f_arg5 f_arg14)
      isplitl [HR_arg10]; · iexact HR_arg10
      isplitl [HR_arg12]; · iexact HR_arg12
      isplitl [HR_arg13]; · iexact HR_arg13
      isplitl [HR_arg15]; · iexact HR_arg15
      isplitl [HR_arg16]; · iexact HR_arg16
      isplitl [HR_arg17]; · iexact HR_arg17
      isplitl [HW_arg5]; · iexact HW_arg5
      iexact HW_arg14
    · iintro %_ ⟨HR_arg10, HR_arg12, HR_arg13, HR_arg15, HR_arg16, HR_arg17, HW_arg5, HW_arg14⟩
      isplitl [HR_arg10]; · iexact HR_arg10
      isplitl [HR_arg12]; · iexact HR_arg12
      isplitl [HR_arg13]; · iexact HR_arg13
      isplitl [HR_arg15]; · iexact HR_arg15
      isplitl [HR_arg16]; · iexact HR_arg16
      isplitl [HR_arg17]; · iexact HR_arg17
      rw [pb_k0_t1_succ]
      isplitl [HW_arg5]
      · iexists _; isplitl [HW_arg5]; · iexact HW_arg5
        ipureintro; rw [h_arg5, ← View.writes_append]
      iexists _; isplitl [HW_arg14]; · iexact HW_arg14
      ipureintro; rw [h_arg14, ← View.writes_append]

end Cert.KernelIdeal.Gen

end
-- ==== Proof.Exact.Runs.lean ====
/- Text of the proof generator, written with its test on scratch read back in a loop relaxed for `arg14` (it refuses this
   kernel otherwise), then copied here with the imports renamed and the `#` lines left out; not regenerated: what the runs of `proofs.«01_k».proof.KernelIdeal`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Gen.KernelIdeal.Launch
public import proofs.«01_k».proof.Proof.Gen.KernelIdeal.Skeleton
public import proofs.«01_k».proof.Proof.Exact.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_2 : ∀ t : Fin cfg0.N, cond0_2 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ t.val % 8 = 0)

/-! ## The kernel body on any staging memrefs: a subtype the run finds -/

/-- One staging buffer of output window 3, through which its contents are stated (`View.read_writes_of_cover`: the
    choice does not matter). -/
abbrev VO0_3 : View sig .tc .vmem S1x2048x128 .bf16 := (Memref.whole cc0_stg3_0 : Memref sig .tc .vmem S1x2048x128 .bf16).view
/-- One staging buffer of output window 4, through which its contents are stated (`View.read_writes_of_cover`: the
    choice does not matter). -/
abbrev VO0_4 : View sig .tc .vmem S1x128x2048 .fp8e4m3 := (Memref.whole cc0_stg4_0 : Memref sig .tc .vmem S1x128x2048 .fp8e4m3).view
/-- One staging buffer of output window 5, through which its contents are stated (`View.read_writes_of_cover`: the
    choice does not matter). -/
abbrev VO0_5 : View sig .tc .vmem S1x16x16 .f32 := (Memref.whole cc0_stg5_0 : Memref sig .tc .vmem S1x16x16 .f32).view
/-- One staging buffer of output window 6, through which its contents are stated (`View.read_writes_of_cover`: the
    choice does not matter). -/
abbrev VO0_6 : View sig .tc .vmem S1x128x2048 .fp8e4m3 := (Memref.whole cc0_stg6_0 : Memref sig .tc .vmem S1x128x2048 .fp8e4m3).view
/-- One staging buffer of output window 7, through which its contents are stated (`View.read_writes_of_cover`: the
    choice does not matter). -/
abbrev VO0_7 : View sig .tc .vmem S1x16x16 .f32 := (Memref.whole cc0_stg7_0 : Memref sig .tc .vmem S1x16x16 .f32).view
/-- One staging buffer of output window 8, through which its contents are stated (`View.read_writes_of_cover`: the
    choice does not matter). -/
abbrev VO0_8 : View sig .tc .vmem S1x128x2048 .fp8e4m3 := (Memref.whole cc0_stg8_0 : Memref sig .tc .vmem S1x128x2048 .fp8e4m3).view
/-- One staging buffer of output window 9, through which its contents are stated (`View.read_writes_of_cover`: the
    choice does not matter). -/
abbrev VO0_9 : View sig .tc .vmem S1x16x16 .f32 := (Memref.whole cc0_stg9_0 : Memref sig .tc .vmem S1x16x16 .f32).view
/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x16 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x128 .fp8e4m3 := Memref.whole cc0_scratch0
abbrev scM0_1 : Memref sig .tc .vmem S128x4096 .fp8e4m3 := Memref.whole cc0_scratch1
abbrev scM0_2 : Memref sig .tc .vmem S2048x256 .f32 := Memref.whole cc0_scratch2
abbrev scM0_3 : Memref sig .tc .vmem S16x256 .f32 := Memref.whole cc0_scratch3
abbrev scM0_4 : Memref sig .tc .vmem S16x256 .f32 := Memref.whole cc0_scratch4
abbrev scM0_5 : Memref sig .tc .vmem S16x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Exact.RunA.lean ====
/- Text of the proof generator, written with its test on scratch read back in a loop relaxed for `arg14` (it refuses this
   kernel otherwise), then copied here with the imports renamed and the `#` lines left out; not regenerated: the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Exact.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2128000 in
/-- What the body's stores leave in each output's staging memref, as pieces (last first) IN CASE A (`scf.if` 0 taken, `scf.if` 1 taken, `scf.if` 2 taken: points 0, 8, … 56: 8 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) :
    Σ' (L3 : List (View.Piece (Elt F) S1x2048x128 .bf16)), Σ' (L4 : List (View.Piece (Elt F) S1x128x2048 .fp8e4m3)), Σ' (L5 : List (View.Piece (Elt F) S1x16x16 .f32)), Σ' (L6 : List (View.Piece (Elt F) S1x128x2048 .fp8e4m3)), Σ' (L7 : List (View.Piece (Elt F) S1x16x16 .f32)), Σ' (L8 : List (View.Piece (Elt F) S1x128x2048 .fp8e4m3)), { L9 : List (View.Piece (Elt F) S1x16x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_fp8_attention_eq_skeleton]; unfold cc0_fp8_attention_skel
    simp only [k0_part65_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.Exact.RunB.lean ====
/- Text of the proof generator, written with its test on scratch read back in a loop relaxed for `arg14` (it refuses this
   kernel otherwise), then copied here with the imports renamed and the `#` lines left out; not regenerated: the whole-body RUN of `proofs.«01_k».proof.KernelIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Exact.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2092000 in
/-- What the body's stores leave in each output's staging memref, as pieces (last first) IN CASE B (`scf.if` 0 not taken, `scf.if` 1 not taken, `scf.if` 2 not taken: points 1, 2, … 63: 56 of 64), WITH the
    proof that on whole staging memrefs — the inputs' at their contents, the outputs it reads before covering (5, 7, 9) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) :
    Σ' (L3 : List (View.Piece (Elt F) S1x2048x128 .bf16)), Σ' (L4 : List (View.Piece (Elt F) S1x128x2048 .fp8e4m3)), Σ' (L5 : List (View.Piece (Elt F) S1x16x16 .f32)), Σ' (L6 : List (View.Piece (Elt F) S1x128x2048 .fp8e4m3)), Σ' (L7 : List (View.Piece (Elt F) S1x16x16 .f32)), Σ' (L8 : List (View.Piece (Elt F) S1x128x2048 .fp8e4m3)), { L9 : List (View.Piece (Elt F) S1x16x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xo5 ∗ (∃ d, owns (c : Thread nD τ) arg8 fullShare d) ∗ owns (c : Thread nD τ) arg9 fullShare xo7 ∗ (∃ d, owns (c : Thread nD τ) arg10 fullShare d) ∗ owns (c : Thread nD τ) arg11 fullShare xo9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_fp8_attention_eq_skeleton]; unfold cc0_fp8_attention_skel
    simp only [k0_part65_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%f7, %hf7, H7⟩, ⟨%d8, %f8, -, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg7.eq_unread hf5; obtain rfl := harg9.eq_unread hf7; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.Exact.Frame.lean ====
/- Text of the proof generator, written with its test on scratch read back in a loop relaxed for `arg14` (it refuses this
   kernel otherwise), then copied here with the imports renamed and the `#` lines left out; not regenerated: the FRAME CERTIFICATE of `proofs.«01_k».proof.KernelIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame`) and `Gen.frame` — the frame claim at any `F`: Proof.lean is
   `theorem Cert.Proof.claim : Cert.Claim := ⟨Gen.facts, fun m ρ _ => Gen.frame m ρ⟩`.
   CLASS R (2 cases of its conditionals, 6 scratch operands, outputs [5, 7, 9] live (their block's contents carried over from the point before)): the certificate is whole here — not class A: the kernel takes operands the pipeline does not stage (scratch, semaphores, tables, arrays left in HBM). -/
module

public import proofs.«01_k».proof.Proof.Exact.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (16 stores of `S1x128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).1 S1x128x128.size (by sl_kernel_rfl) y

/-- What case A leaves in output 3's staging buffer: its pieces read back over junk. -/
def out0_A_3 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x2048x128 .bf16 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).1)

/-- Case A's pieces for output 4 tile its block (16 stores of `S1x128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.1 S1x128x128.size (by sl_kernel_rfl) y

/-- What case A leaves in output 4's staging buffer: its pieces read back over junk. -/
def out0_A_4 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x128x2048 .fp8e4m3 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.1)

/-- Case A's pieces for output 5 tile its block (2 stores of `S1x16x16`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x16x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.1 S1x16x16.size (by sl_kernel_rfl) y

/-- What case A leaves in output 5's staging buffer: its pieces read back over junk. -/
def out0_A_5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x16x16 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.1)

/-- Case A's pieces for output 6 tile its block (16 stores of `S1x128x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.1 S1x128x128.size (by sl_kernel_rfl) y

/-- What case A leaves in output 6's staging buffer: its pieces read back over junk. -/
def out0_A_6 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x128x2048 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.1)

/-- Case A's pieces for output 7 tile its block (2 stores of `S1x16x16`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x16x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.1 S1x16x16.size (by sl_kernel_rfl) y

/-- What case A leaves in output 7's staging buffer: its pieces read back over junk. -/
def out0_A_7 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x16x16 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.1)

/-- Case A's pieces for output 8 tile its block (16 stores of `S1x128x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.2.1 S1x128x128.size (by sl_kernel_rfl) y

/-- What case A leaves in output 8's staging buffer: its pieces read back over junk. -/
def out0_A_8 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x128x2048 .fp8e4m3 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.2.1)

/-- Case A's pieces for output 9 tile its block (2 stores of `S1x16x16`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) (y : S1x16x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.2.2.1 S1x16x16.size (by sl_kernel_rfl) y

/-- What case A leaves in output 9's staging buffer: its pieces read back over junk. -/
def out0_A_9 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : cond0_0 i) (hc1 : cond0_1 i) (hc2 : cond0_2 i)
    (x0 : Vec F S1x2048x128 .bf16) (x1 : Vec F S1x2048x128 .bf16) (x2 : Vec F S1x2048x128 .bf16) : Vec F S1x16x16 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2).2.2.2.2.2.2.1)

/-- Case B's pieces for output 3 tile its block (16 stores of `S1x128x128`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x2048x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).1 S1x128x128.size (by sl_kernel_rfl) y

/-- What case B leaves in output 3's staging buffer: its pieces read back over junk. -/
def out0_B_3 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x2048x128 .bf16 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).1)

/-- Case B's pieces for output 4 tile its block (16 stores of `S1x128x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.1 S1x128x128.size (by sl_kernel_rfl) y

/-- What case B leaves in output 4's staging buffer: its pieces read back over junk. -/
def out0_B_4 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x128x2048 .fp8e4m3 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.1)

/-- Case B's pieces for output 5 tile its block (1 store of `S1x16x16`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x16x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.1 S1x16x16.size (by sl_kernel_rfl) y

/-- What case B leaves in output 5's staging buffer: its pieces read back over junk. -/
def out0_B_5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x16x16 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.1)

/-- Case B's pieces for output 6 tile its block (16 stores of `S1x128x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.1 S1x128x128.size (by sl_kernel_rfl) y

/-- What case B leaves in output 6's staging buffer: its pieces read back over junk. -/
def out0_B_6 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x128x2048 .fp8e4m3 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.1)

/-- Case B's pieces for output 7 tile its block (1 store of `S1x16x16`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x16x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.1 S1x16x16.size (by sl_kernel_rfl) y

/-- What case B leaves in output 7's staging buffer: its pieces read back over junk. -/
def out0_B_7 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x16x16 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.1)

/-- Case B's pieces for output 8 tile its block (16 stores of `S1x128x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.2.1 S1x128x128.size (by sl_kernel_rfl) y

/-- What case B leaves in output 8's staging buffer: its pieces read back over junk. -/
def out0_B_8 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x128x2048 .fp8e4m3 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.2.1)

/-- Case B's pieces for output 9 tile its block (1 store of `S1x16x16`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) (y : S1x16x16.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.2.2.1 S1x16x16.size (by sl_kernel_rfl) y

/-- What case B leaves in output 9's staging buffer: its pieces read back over junk. -/
def out0_B_9 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .fp8e4m3) (harg6 : arg6.IsWhole) (arg7 : Memref sig .tc .vmem S1x16x16 .f32) (harg7 : arg7.IsWhole) (arg8 : Memref sig .tc .vmem S1x128x2048 .fp8e4m3) (harg8 : arg8.IsWhole) (arg9 : Memref sig .tc .vmem S1x16x16 .f32) (harg9 : arg9.IsWhole) (arg10 : Memref sig .tc .vmem S1x128x2048 .fp8e4m3) (harg10 : arg10.IsWhole) (arg11 : Memref sig .tc .vmem S1x16x16 .f32) (harg11 : arg11.IsWhole) (arg12 : Memref sig .tc .vmem S2048x128 .fp8e4m3) (harg12 : arg12.IsWhole) (arg13 : Memref sig .tc .vmem S128x4096 .fp8e4m3) (harg13 : arg13.IsWhole) (arg14 : Memref sig .tc .vmem S2048x256 .f32) (harg14 : arg14.IsWhole) (arg15 : Memref sig .tc .vmem S16x256 .f32) (harg15 : arg15.IsWhole) (arg16 : Memref sig .tc .vmem S16x256 .f32) (harg16 : arg16.IsWhole) (arg17 : Memref sig .tc .vmem S16x256 .f32) (harg17 : arg17.IsWhole) (hc0 : ¬cond0_0 i) (hc1 : ¬cond0_1 i) (hc2 : ¬cond0_2 i)
    (x0 : Vec F S1x2048x128 .bf16) (x1 : Vec F S1x2048x128 .bf16) (x2 : Vec F S1x2048x128 .bf16) (xo5 : Vec F S1x16x16 .f32) (xo7 : Vec F S1x16x16 .f32) (xo9 : Vec F S1x16x16 .f32) : Vec F S1x16x16 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 xo5 xo7 xo9).2.2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2048x128 .bf16 × Vec F S1x128x2048 .fp8e4m3 × Vec F S1x16x16 .f32 × Vec F S1x128x2048 .fp8e4m3 × Vec F S1x16x16 .f32 × Vec F S1x128x2048 .fp8e4m3 × Vec F S1x16x16 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) ((hcond0_2 ⟨0, hn⟩).mpr (Nat.zero_mod _)) (iblk m c 0 ⟨0, hn⟩) (iblk m c 1 ⟨0, hn⟩) (iblk m c 2 ⟨0, hn⟩))
  | n + 1, hn =>
    if h0 : (n + 1) % 8 = 0 then
      if h1 : (n + 1) % 8 = 0 then
        if h2 : (n + 1) % 8 = 0 then
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩))
        else
          False.elim (by have hN : n + 1 < 64 := lt_of_lt_of_eq hn (show cfg0.N = 64 from N_0); omega)
      else
        False.elim (by have hN : n + 1 < 64 := lt_of_lt_of_eq hn (show cfg0.N = 64 from N_0); omega)
    else
      if h1 : (n + 1) % 8 = 0 then
        False.elim (by have hN : n + 1 < 64 := lt_of_lt_of_eq hn (show cfg0.N = 64 from N_0); omega)
      else
        if h2 : (n + 1) % 8 = 0 then
          False.elim (by have hN : n + 1 < 64 := lt_of_lt_of_eq hn (show cfg0.N = 64 from N_0); omega)
        else
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.2)

/-- `outsAt0` at a point of case A: that case's contents. -/
theorem outsAt0_A (c : Dev nD) (t : Fin cfg0.N) (h0 : t.val % 8 = 0) (h1 : t.val % 8 = 0) (h2 : t.val % 8 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 8 = 0) (h1 : ¬t.val % 8 = 0) (h2 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
    | ⟨7, _⟩ => (outsAt0 m c t.val t.isLt).2.2.2.2.1
    | ⟨8, _⟩ => (outsAt0 m c t.val t.isLt).2.2.2.2.2.1
    | ⟨9, _⟩ => (outsAt0 m c t.val t.isLt).2.2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]
theorem after0_7 (c : Dev nD) (t : Fin cfg0.N) : (dats m 0 c).after 7 t = (outsAt0 m c t.val t.isLt).2.2.2.2.1 := by dsimp only [dats]
theorem after0_8 (c : Dev nD) (t : Fin cfg0.N) : (dats m 0 c).after 8 t = (outsAt0 m c t.val t.isLt).2.2.2.2.2.1 := by dsimp only [dats]
theorem after0_9 (c : Dev nD) (t : Fin cfg0.N) : (dats m 0 c).after 9 t = (outsAt0 m c t.val t.isLt).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 8 = 0) (h1 : ¬t.val % 8 = 0) (h2 : ¬t.val % 8 = 0) (d) :
    (dats m 0 c).before 5 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 8 = 0) (h1 : ¬t.val % 8 = 0) (h2 : ¬t.val % 8 = 0) (d) :
    (dats m 0 c).before 7 t d = (outsAt0 m c (t.val - 1) (Nat.lt_of_le_of_lt (Nat.sub_le _ _) t.isLt)).2.2.2.2.1 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 8 = 0) (h1 : ¬t.val % 8 = 0) (h2 : ¬t.val % 8 = 0) (d) :
    (dats m 0 c).before 9 t d = (outsAt0 m c (t.val - 1) (Nat.lt_of_le_of_lt (Nat.sub_le _ _) t.isLt)).2.2.2.2.2.2 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · by_cases h1 : t.val % 8 = 0
    · by_cases h2 : t.val % 8 = 0
      · rw [outsAt0_A m c t h0 h1 h2]
        unfold out0_A_3 out0_A_4 out0_A_5 out0_A_6 out0_A_7 out0_A_8 out0_A_9; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t)).2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, ⟨%e3, H3⟩, ⟨%e4, H4⟩, ⟨%e5, H5⟩, ⟨%e6, H6⟩, ⟨%e7, H7⟩, ⟨%e8, H8⟩, ⟨%e9, H9⟩, HS0, HS1, HS2, HS3, HS4, HS5⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      · exfalso; omega
    · exfalso; omega
  · by_cases h1 : t.val % 8 = 0
    · exfalso; omega
    · by_cases h2 : t.val % 8 = 0
      · exfalso; omega
      · rw [outsAt0_B m c t h0 h1 h2]
        simp only [before0_5_B m c t h0 h1 h2, before0_7_B m c t h0 h1 h2, before0_9_B m c t h0 h1 h2]
        unfold out0_B_3 out0_B_4 out0_B_5 out0_B_6 out0_B_7 out0_B_8 out0_B_9; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _ _ _).2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [H6]; · iexists _; iexact H6
        isplitl [H7]; · iexact H7
        isplitl [H8]; · iexists _; iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, ⟨%e3, H3⟩, ⟨%e4, H4⟩, ⟨%e5, H5⟩, ⟨%e6, H6⟩, ⟨%e7, H7⟩, ⟨%e8, H8⟩, ⟨%e9, H9⟩, HS0, HS1, HS2, HS3, HS4, HS5⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Power.lean ====
/- The power-of-two scale of a block, read over the extended reals.

   A block's scale is `2 ^ e`, where `e` is the exponent that `frexp` gives `y = amax / 448`: with `N` the number of the
   powers `2 ^ (-126), …, 2 ^ 127, ⊤` that are at most `y`, `e = N - 126`, and `0` when `N` is `0` (a zero or a subnormal) or
   `255` (an infinity). The kernel finds `N` by a binary search of eight comparisons and builds `2 ^ e` as the product of two
   powers of two from integers (`search_eq`, `ldexp_eq`); the reference counts the powers and takes `exp2` (`count_eq`). -/
module

public import Idealize.ShloMosaic.Lib.Pointwise
public import Idealize.ShloMosaic.Lib.IdealHost

@[expose] public section

set_option maxRecDepth 16384

noncomputable section

namespace Cert.Quant

open Idealize.ShloMosaic Idealize.ShloMosaic.TcCoe

/-- `2 ^ e` as an extended real. -/
def pw (e : ℤ) : EReal := (((2 : ℝ) ^ e : ℝ) : EReal)

theorem pw_pos (e : ℤ) : 0 < pw e := by
  unfold pw; exact_mod_cast zpow_pos (by norm_num : (0 : ℝ) < 2) e

theorem pw_nonneg (e : ℤ) : 0 ≤ pw e := (pw_pos e).le

theorem pw_ne_top (e : ℤ) : pw e ≠ ⊤ := EReal.coe_ne_top _

theorem pw_ne_bot (e : ℤ) : pw e ≠ ⊥ := EReal.coe_ne_bot _

theorem pw_mul (a b : ℤ) : pw a * pw b = pw (a + b) := by
  unfold pw; rw [← EReal.coe_mul, ← zpow_add₀ (by norm_num : (2 : ℝ) ≠ 0)]

theorem pw_le {a b : ℤ} : pw a ≤ pw b ↔ a ≤ b := by
  unfold pw; rw [EReal.coe_le_coe_iff]; exact zpow_le_zpow_iff_right₀ (by norm_num)

/-- The float whose exponent field is `n`: `2 ^ (n - 127)`, and `⊤` at 255. -/
def theta (n : ℕ) : EReal := Ideal.ofBits .f32 (BitVec.ofNat 32 n <<< 23)

theorem theta_fields (n : ℕ) (h : n < 256) :
    (BitVec.ofNat 32 n <<< 23 : BitVec 32).extractLsb' 31 1 = 0#1
      ∧ ((BitVec.ofNat 32 n <<< 23 : BitVec 32).extractLsb' 23 8).toNat = n
      ∧ ((BitVec.ofNat 32 n <<< 23 : BitVec 32).extractLsb' 0 23).toNat = 0 := by
  have e : (BitVec.ofNat 32 n <<< 23 : BitVec 32).toNat = n * 2 ^ 23 := by
    simp only [BitVec.toNat_shiftLeft, BitVec.toNat_ofNat, Nat.shiftLeft_eq]
    omega
  refine ⟨?_, ?_, ?_⟩
  · apply BitVec.eq_of_toNat_eq
    rw [BitVec.extractLsb'_toNat, e, Nat.shiftRight_eq_div_pow, BitVec.toNat_ofNat]
    omega
  · rw [BitVec.extractLsb'_toNat, e, Nat.shiftRight_eq_div_pow]
    omega
  · rw [BitVec.extractLsb'_toNat, e, Nat.shiftRight_eq_div_pow]
    omega

theorem ieee_normal (b : BitVec 32) (n : ℕ) (hs : b.extractLsb' 31 1 = 0#1) (he : (b.extractLsb' 23 8).toNat = n)
    (hf : (b.extractLsb' 0 23).toNat = 0) (h1 : n ≠ 255) (h2 : n ≠ 0) :
    Ideal.ieee 8 23 b = (((2 : ℝ) ^ ((n : ℤ) - 127) : ℝ) : EReal) := by
  unfold Ideal.ieee
  dsimp only
  rw [show (8 + 23) = 31 from rfl, hs, he, hf, if_neg (by norm_num; exact h1), if_neg h2]
  refine congrArg (fun r : ℝ => (r : EReal)) ?_
  rw [if_neg (by decide), one_mul, Nat.add_zero, Nat.cast_pow, Nat.cast_ofNat, ← zpow_natCast,
    ← zpow_add₀ (by norm_num : (2 : ℝ) ≠ 0)]
  congr 1
  norm_num

theorem theta_eq (n : ℕ) (h1 : 1 ≤ n) (h2 : n ≤ 254) : theta n = pw ((n : ℤ) - 127) := by
  obtain ⟨hs, he, hf⟩ := theta_fields n (by omega)
  exact ieee_normal _ n hs he hf (by omega) (by omega)

theorem theta_top : theta 255 = ⊤ := by
  obtain ⟨hs, he, hf⟩ := theta_fields 255 (by omega)
  unfold theta Ideal.ofBits Ideal.ieee
  simp only [Nat.reduceAdd, hs, he, hf]
  simp

theorem theta_mono {a b : ℕ} (h1 : 1 ≤ a) (h : a ≤ b) (h2 : b ≤ 255) : theta a ≤ theta b := by
  rcases Nat.lt_or_ge b 255 with hb | hb
  · rw [theta_eq a h1 (by omega), theta_eq b (by omega) (by omega), pw_le]; omega
  · have : b = 255 := by omega
    rw [this, theta_top]; exact le_top

theorem theta_pos {a : ℕ} (h1 : 1 ≤ a) (h2 : a ≤ 255) : 0 < theta a := by
  rcases Nat.lt_or_ge a 255 with hb | hb
  · rw [theta_eq a h1 (by omega)]; exact pw_pos _
  · have : a = 255 := by omega
    rw [this, theta_top]; exact EReal.zero_lt_top

/-- How many of the 255 thresholds are at most `y`. -/
def rank (y : EReal) : ℕ := (Finset.univ.filter fun j : Fin 255 => theta (j.val + 1) ≤ y).card

/-- The exponent of `y` as `frexp` gives it, `0` for a zero, a subnormal and an infinity. -/
def expo (y : EReal) : ℤ := if rank y = 0 ∨ rank y = 255 then 0 else (rank y : ℤ) - 126

/-- A number that the thresholds bracket as they do `y` is `y`'s rank. -/
theorem rank_eq {y : EReal} {n : ℕ} (hn : n ≤ 255) (lo : n = 0 ∨ theta n ≤ y) (hi : n = 255 ∨ y < theta (n + 1)) :
    rank y = n := by
  have : (Finset.univ.filter fun j : Fin 255 => theta (j.val + 1) ≤ y) = Finset.univ.filter fun j : Fin 255 => j.val < n := by
    ext j
    simp only [Finset.mem_filter, Finset.mem_univ, true_and]
    constructor
    · intro h
      by_contra hc
      rcases hi with hi | hi
      · have := j.isLt; omega
      · exact absurd (le_trans (theta_mono (by omega) (by omega : n + 1 ≤ j.val + 1) (by have := j.isLt; omega)) h)
          (not_le.2 hi)
    · intro h
      rcases lo with lo | lo
      · omega
      · exact le_trans (theta_mono (by omega) (by omega) hn) lo
  rw [rank, this, Fin.card_filter_val_lt]
  omega

theorem rank_le (y : EReal) : rank y ≤ 255 := by
  refine (Finset.card_le_univ _).trans ?_
  simp

/-- The thresholds at most `y` are the first `rank y`. -/
theorem rank_bracket (y : EReal) : (∃ n, n ≤ 255 ∧ (n = 0 ∨ theta n ≤ y) ∧ (n = 255 ∨ y < theta (n + 1)) ∧ rank y = n) := by
  classical
  by_cases h : ∃ n, n < 255 ∧ y < theta (n + 1)
  · have h' := Nat.find_spec h
    refine ⟨Nat.find h, by omega, ?_, Or.inr h'.2, ?_⟩
    · rcases Nat.eq_zero_or_pos (Nat.find h) with h0 | h0
      · exact Or.inl h0
      · right
        have := Nat.find_min h (m := Nat.find h - 1) (by omega)
        by_contra hc
        exact this ⟨by omega, by rw [Nat.sub_add_cancel h0]; exact not_le.1 hc⟩
    · refine rank_eq (by omega) ?_ (Or.inr h'.2)
      rcases Nat.eq_zero_or_pos (Nat.find h) with h0 | h0
      · exact Or.inl h0
      · right
        have := Nat.find_min h (m := Nat.find h - 1) (by omega)
        by_contra hc
        exact this ⟨by omega, by rw [Nat.sub_add_cancel h0]; exact not_le.1 hc⟩
  · push Not at h
    have : theta 255 ≤ y := h 254 (by omega)
    exact ⟨255, le_rfl, Or.inr this, Or.inl rfl, rank_eq le_rfl (Or.inr this) (Or.inl rfl)⟩

theorem le_iff_rank (y : EReal) {n : ℕ} (h1 : 1 ≤ n) (h2 : n ≤ 255) : theta n ≤ y ↔ n ≤ rank y := by
  obtain ⟨r, hr, lo, hi, e⟩ := rank_bracket y
  rw [e]
  constructor
  · intro h
    by_contra hc
    rcases hi with hi | hi
    · omega
    · exact absurd (le_trans (theta_mono (by omega) (by omega : r + 1 ≤ n) h2) h) (not_le.2 hi)
  · intro h
    rcases lo with lo | lo
    · omega
    · exact le_trans (theta_mono h1 h hr) lo

theorem expo_zero : expo 0 = 0 := by
  have : rank 0 = 0 := by
    refine rank_eq (by omega) (Or.inl rfl) (Or.inr (theta_pos (by omega) (by omega)))
  simp [expo, this]

theorem rank_top_iff (y : EReal) : rank y = 255 ↔ y = ⊤ := by
  constructor
  · intro h
    have := (le_iff_rank y (n := 255) (by omega) le_rfl).2 (by omega)
    rw [theta_top] at this
    exact top_le_iff.1 this
  · rintro rfl
    exact rank_eq le_rfl (Or.inr le_top) (Or.inl rfl)

theorem expo_bounds (y : EReal) : -125 ≤ expo y ∧ expo y ≤ 128 := by
  have := rank_le y
  unfold expo
  split_ifs with h <;> omega

/-! ## The reference: a count of the powers, then `exp2` -/

theorem exp2_int (e : ℤ) : Ideal.exp2 (((e : ℝ)) : EReal) = pw e := by
  rw [Ideal.exp2_coe]
  unfold pw
  congr 1
  exact Real.rpow_intCast 2 e

/-- The reference's count of the powers `2 ^ (-126) … 2 ^ 127` that are at most `y`. -/
theorem count_eq (y : EReal) :
    (∑ j : Fin 254, if Ideal.exp2 ((((j.val : ℤ) - 126 : ℤ) : ℝ) : EReal) ≤ y then (1 : EReal) else 0) = ((min (rank y) 254 : ℕ) : EReal) := by
  rw [Finset.sum_boole]
  congr 1
  have : (Finset.univ.filter fun j : Fin 254 => Ideal.exp2 ((((j.val : ℤ) - 126 : ℤ) : ℝ) : EReal) ≤ y)
      = Finset.univ.filter fun j : Fin 254 => j.val < rank y := by
    ext j
    simp only [Finset.mem_filter, Finset.mem_univ, true_and]
    have hj := j.isLt
    rw [exp2_int, show ((j.val : ℤ) - 126) = ((j.val + 1 : ℕ) : ℤ) - 127 by push_cast; ring,
      ← theta_eq (j.val + 1) (by omega) (by omega), le_iff_rank y (by omega) (by omega)]
    omega
  rw [this, Fin.card_filter_val_lt, min_comm]

/-- The reference's exponent from its count. -/
theorem ref_expo (y n : EReal) (hn : n = ((min (rank y) 254 : ℕ) : EReal)) :
    (if n = 0 ∨ y = ⊤ then (0 : EReal) else n - ((126 : ℝ) : EReal)) = (((expo y : ℤ) : ℝ) : EReal) := by
  have h255 := rank_top_iff y
  have hr := rank_le y
  subst hn
  by_cases h0 : rank y = 0
  · simp [expo, h0]
  by_cases h1 : rank y = 255
  · rw [if_pos (Or.inr (h255.1 h1))]; simp [expo, h1]
  · have hm : min (rank y) 254 = rank y := by omega
    rw [hm, if_neg, expo, if_neg (by omega)]
    · rw [← EReal.coe_natCast, ← EReal.coe_sub]; push_cast; rfl
    · rintro (h | h)
      · exact h0 (by exact_mod_cast h)
      · exact h1 (h255.2 h)

/-! ## The kernel: eight comparisons, then two powers of two built from integers -/

variable {s : Shape}

/-- One comparison of the binary search: `k` more if `y` reaches the power whose field is `c + k`. -/
def stepV (y : FVec Ideal s .f32) (c : IVec s 32) (k : BitVec 32) : IVec s 32 :=
  select (cmpf .oge y (bitcastToFloat .f32 (shli (addi c (broadcast s k)) (broadcast s 23#32)))) (addi c (broadcast s k)) c

/-- The binary search from zero. -/
def searchV (y : FVec Ideal s .f32) : IVec s 32 :=
  stepV y (stepV y (stepV y (stepV y (stepV y (stepV y (stepV y (stepV y (broadcast s 0#32) 128#32) 64#32) 32#32) 16#32) 8#32) 4#32) 2#32) 1#32

/-- The exponent of a maximum `a`, from the search on `y = a / 448`. -/
def expoV (a y : FVec Ideal s .f32) : IVec s 32 :=
  select (cmpf .oeq a (broadcast s (Scalar.ofBits .f32 0x00000000#32))) (broadcast s 0#32)
    (select (ori (cmpi .eq (searchV y) (broadcast s 0#32)) (cmpi .eq (searchV y) (broadcast s 255#32))) (broadcast s 0#32)
      (subi (searchV y) (broadcast s 126#32)))

/-- `2 ^ e` as the product of two powers whose fields are half of `e` each. -/
def ldexpV (e : IVec s 32) : FVec Ideal s .f32 :=
  mulf (bitcastToFloat .f32 (shli (addi (shrsi e (broadcast s 1#32)) (broadcast s 127#32)) (broadcast s 23#32)))
    (bitcastToFloat .f32 (shli (addi (subi e (shrsi e (broadcast s 1#32))) (broadcast s 127#32)) (broadcast s 23#32)))

theorem shl23 (x : BitVec 32) : IntOp.shli .vector x 23#32 = x <<< 23 := by
  unfold IntOp.shli
  rw [if_pos (by decide)]
  rfl

theorem ofInt_sub' (a b : ℤ) : BitVec.ofInt 32 a - BitVec.ofInt 32 b = BitVec.ofInt 32 (a - b) := by
  rw [BitVec.sub_eq_add_neg, ← BitVec.ofInt_neg, ← BitVec.ofInt_add, Int.sub_eq_add_neg]

/-- What holds of the number found so far with `w` candidates left. -/
def Inv (y : EReal) (c : BitVec 32) (w : ℕ) : Prop :=
  c.toNat + w ≤ 256 ∧ (c.toNat = 0 ∨ theta c.toNat ≤ y) ∧ (c.toNat + w = 256 ∨ y < theta (c.toNat + w))

theorem stepV_inv (y : FVec Ideal s .f32) (c : IVec s 32) (k : ℕ) (hk : 1 ≤ k) (hk' : k ≤ 128) (i : s.Idx) (h : Inv (y i) (c i) (2 * k)) :
    Inv (y i) (stepV y c (BitVec.ofNat 32 k) i) k := by
  obtain ⟨h1, h2, h3⟩ := h
  have ek : (c i + BitVec.ofNat 32 k).toNat = (c i).toNat + k := by
    rw [BitVec.toNat_add, BitVec.toNat_ofNat]; omega
  have e : stepV y c (BitVec.ofNat 32 k) i = if theta ((c i).toNat + k) ≤ y i then c i + BitVec.ofNat 32 k else c i := by
    have ht : theta ((c i).toNat + k) = FloatOps.ofBits (F := Ideal) .f32 (IntOp.shli .vector (c i + BitVec.ofNat 32 k) 23#32) := by
      rw [shl23]
      unfold theta
      rw [← ek, BitVec.ofNat_toNat, BitVec.setWidth_eq]
      rfl
    rw [ht]
    show Scalar.select (BitVec.ofBool (decide (FloatOps.ofBits (F := Ideal) .f32 (IntOp.shli .vector (c i + BitVec.ofNat 32 k) 23#32) ≤ y i)))
      (c i + BitVec.ofNat 32 k) (c i) = _
    by_cases hc : FloatOps.ofBits (F := Ideal) .f32 (IntOp.shli .vector (c i + BitVec.ofNat 32 k) 23#32) ≤ y i
    · rw [if_pos hc, decide_eq_true hc]; rfl
    · rw [if_neg hc, decide_eq_false hc]; rfl
  rw [e]
  split_ifs with hc
  · refine ⟨by omega, Or.inr (by rw [ek]; exact hc), ?_⟩
    rw [ek, show (c i).toNat + k + k = (c i).toNat + 2 * k by omega]; exact h3
  · exact ⟨by omega, h2, Or.inr (not_le.1 hc)⟩

/-- The search finds the rank. -/
theorem searchV_eq (y : FVec Ideal s .f32) (i : s.Idx) : (searchV y i).toNat = rank (y i) := by
  have h0 : Inv (y i) (broadcast s 0#32 i) (2 * 128) := ⟨by simp [broadcast], Or.inl (by simp [broadcast]), Or.inl (by simp [broadcast])⟩
  have h1 := stepV_inv y _ 128 (by omega) (by omega) i h0
  have h2 := stepV_inv y _ 64 (by omega) (by omega) i h1
  have h3 := stepV_inv y _ 32 (by omega) (by omega) i h2
  have h4 := stepV_inv y _ 16 (by omega) (by omega) i h3
  have h5 := stepV_inv y _ 8 (by omega) (by omega) i h4
  have h6 := stepV_inv y _ 4 (by omega) (by omega) i h5
  have h7 := stepV_inv y _ 2 (by omega) (by omega) i h6
  have h8 : Inv (y i) (searchV y i) 1 := stepV_inv y _ 1 (by omega) (by omega) i h7
  obtain ⟨a, b, c⟩ := h8
  exact (rank_eq (by omega) b (c.imp (fun h => by omega) id)).symm

/-- The kernel's exponent is `expo`, as a word. -/
theorem expoV_eq (a y : FVec Ideal s .f32) (i : s.Idx) (h : a i = 0 → y i = 0) : (expoV a y i) = BitVec.ofInt 32 (expo (y i)) := by
  have hs := searchV_eq y i
  have hr := rank_le (y i)
  generalize hc : searchV y i = c at hs
  have e : expoV a y i = if a i = 0 then 0#32 else if c = 0#32 ∨ c = 255#32 then 0#32 else c - 126#32 := by
    have hz : (Scalar.ofBits (F := Ideal) .f32 0x00000000#32 : EReal) = 0 := Ideal.ofBits_zero_f32
    show Scalar.select (BitVec.ofBool (decide (a i = Scalar.ofBits (F := Ideal) .f32 0x00000000#32))) 0#32
      (Scalar.select (BitVec.ofBool (searchV y i == 0#32) ||| BitVec.ofBool (searchV y i == 255#32)) 0#32 (searchV y i - 126#32)) = _
    rw [hz, hc]
    have two : ∀ (b : Bool) (p q : BitVec 32), Scalar.select (BitVec.ofBool b) p q = if b then p else q := by
      intro b p q; cases b <;> rfl
    have hor : BitVec.ofBool (c == 0#32) ||| BitVec.ofBool (c == 255#32) = BitVec.ofBool (c == 0#32 || c == 255#32) := by
      cases (c == 0#32) <;> cases (c == 255#32) <;> rfl
    rw [hor, two, two]
    simp only [decide_eq_true_eq, Bool.or_eq_true, beq_iff_eq]
  rw [e]
  have c0 : c = 0#32 ↔ rank (y i) = 0 := by
    rw [← hs]; constructor
    · rintro rfl; rfl
    · intro h; exact BitVec.eq_of_toNat_eq h
  have c255 : c = 255#32 ↔ rank (y i) = 255 := by
    rw [← hs]; constructor
    · rintro rfl; rfl
    · intro h; exact BitVec.eq_of_toNat_eq h
  split_ifs with ha hb
  · rw [h ha, expo_zero]; rfl
  · rw [expo, if_pos (by rw [c0, c255] at hb; exact hb)]; rfl
  · rw [c0, c255] at hb
    rw [expo, if_neg hb]
    apply BitVec.eq_of_toInt_eq
    rw [BitVec.toInt_ofInt, BitVec.toInt_eq_toNat_bmod, BitVec.toNat_sub, hs]
    rw [show (126#32).toNat = 126 from rfl]
    simp only [Int.bmod]
    norm_num
    split_ifs <;> omega

theorem theta_word (x : BitVec 32) (n : ℤ) (h : x = BitVec.ofInt 32 n) (h1 : 1 ≤ n) (h2 : n ≤ 254) :
    (FloatOps.ofBits (F := Ideal) .f32 (IntOp.shli .vector x 23#32) : EReal) = pw (n - 127) := by
  rw [shl23]
  obtain ⟨k, rfl⟩ : ∃ k : ℕ, n = k := ⟨n.toNat, by omega⟩
  have : x = BitVec.ofNat 32 k := by rw [h]; rfl
  rw [this]
  exact theta_eq k (by omega) (by omega)

/-- The product of the two powers is `2 ^ e`. -/
theorem ldexpV_eq (e : IVec s 32) (i : s.Idx) (n : ℤ) (h : e i = BitVec.ofInt 32 n) (h1 : -250 ≤ n) (h2 : n ≤ 250) :
    ldexpV e i = pw n := by
  have hh : IntOp.shrsi .vector (e i) 1#32 = BitVec.ofInt 32 (n / 2) := by
    unfold IntOp.shrsi
    rw [if_pos (by decide), h]
    apply BitVec.eq_of_toInt_eq
    rw [BitVec.sshiftRight', BitVec.toInt_sshiftRight, BitVec.toInt_ofInt, BitVec.toInt_ofInt, Int.shiftRight_eq_div_pow]
    rw [show (1#32).toNat = 1 from rfl]
    simp only [Int.bmod]
    norm_num
    split_ifs <;> omega
  have add127 : ∀ k : ℤ, BitVec.ofInt 32 k + 127#32 = BitVec.ofInt 32 (k + 127) := by
    intro k; rw [BitVec.ofInt_add]; rfl
  show FloatOps.ofBits (F := Ideal) .f32 (IntOp.shli .vector (IntOp.shrsi .vector (e i) 1#32 + 127#32) 23#32)
    * FloatOps.ofBits (F := Ideal) .f32 (IntOp.shli .vector (e i - IntOp.shrsi .vector (e i) 1#32 + 127#32) 23#32) = pw n
  rw [hh, h, ofInt_sub', add127, add127, theta_word _ _ rfl (by omega) (by omega), theta_word _ _ rfl (by omega) (by omega)]
  refine (pw_mul _ _).trans ?_
  congr 1
  omega

/-- The kernel's scale of a maximum `a`, and its inverse. -/
theorem scaleV_eq (a y : FVec Ideal s .f32) (i : s.Idx) (h : a i = 0 → y i = 0) : ldexpV (expoV a y) i = pw (expo (y i)) := by
  have := expo_bounds (y i)
  exact ldexpV_eq _ i _ (expoV_eq a y i h) (by omega) (by omega)

theorem invV_eq (a y : FVec Ideal s .f32) (i : s.Idx) (h : a i = 0 → y i = 0) :
    ldexpV (subi (broadcast s 0#32) (expoV a y)) i = pw (-expo (y i)) := by
  have := expo_bounds (y i)
  refine ldexpV_eq _ i _ ?_ (by omega) (by omega)
  show 0#32 - expoV a y i = _
  rw [expoV_eq a y i h, show (0#32 : BitVec 32) = BitVec.ofInt 32 0 from rfl, ofInt_sub']
  congr 1
  omega

end Cert.Quant
-- ==== Proof.Scales.lean ====
/- The scales of one grid point's blocks.

   A grid point holds `128` lanes of every token: the columns of two heads, `64` lanes each. The kernel takes the maximum
   magnitude of each run of `128` tokens and each head (`blockMax`), and from it the power-of-two scale (`scaleVec`) and its
   inverse (`invVec`). The three inputs are cut into payloads at different places, but they are the same functions. -/
module

public import proofs.«01_k».proof.Proof.Power
public import proofs.«01_k».proof.Proof.Gen.KernelIdeal.Skeleton

@[expose] public section

set_option maxRecDepth 16384

noncomputable section

namespace Cert.Quant

open Idealize.ShloMosaic Idealize.ShloMosaic.TcCoe
open Cert.KernelIdeal Cert.KernelIdeal.Gen

/-- The lane numbers of a block's `128` columns. -/
abbrev lanes : IVec S16x128 32 := iota Kind.tc S16x128 32 [1] iota_S16x128_d1_w32

/-- The head numbers of a scale row. -/
abbrev heads : IVec S16x16 32 := iota Kind.tc S16x16 32 [1] iota_S16x16_d1_w32

/-- The magnitude of an extended real. -/
def mag (x : EReal) : EReal := max x (-x)

theorem mag_nonneg (x : EReal) : 0 ≤ mag x := by
  unfold mag
  rcases le_total 0 x with h | h
  · exact le_max_of_le_left h
  · exact le_max_of_le_right (by simpa using EReal.neg_le_neg_iff.2 h)

/-- `1 / 448` as the programs spell it. -/
def recip448 : EReal := Ideal.ofBits .f32 0x3B124925#32

theorem negInf : Ideal.ofBits .f32 0xFF800000#32 = (⊥ : EReal) := by
  simp [Ideal.ofBits, Ideal.ieee]

/-- The maximum magnitude of each run of tokens, one for each of the `128` lanes. -/
def laneMax (v : Vec Ideal S1x2048x128 .bf16) : FVec Ideal S16x128 .f32 := k0_pay209 v

/-- The maximum magnitudes of the runs, the first head's in the first `128` columns and the second's in the others. -/
def blockMax (v : Vec Ideal S1x2048x128 .bf16) : FVec Ideal S16x256 .f32 :=
  k0_pay215 (k0_pay213 lanes (laneMax v) (k0_pay210 lanes) (k0_pay211 lanes) k0_pay212) (k0_pay214 lanes (laneMax v))

/-- The maximum magnitudes divided by `448`. -/
def blockQuot (v : Vec Ideal S1x2048x128 .bf16) : FVec Ideal S16x256 .f32 :=
  mulf (blockMax v) (broadcast S16x256 (Scalar.ofBits .f32 0x3B124925#32))

/-- The scales. -/
def scaleVec (v : Vec Ideal S1x2048x128 .bf16) : FVec Ideal S16x256 .f32 := ldexpV (expoV (blockMax v) (blockQuot v))

/-- The inverse scales. -/
def invVec (v : Vec Ideal S1x2048x128 .bf16) : FVec Ideal S16x256 .f32 :=
  ldexpV (subi (broadcast S16x256 0#32) (expoV (blockMax v) (blockQuot v)))

section Forms

variable (v : Vec Ideal S1x2048x128 .bf16)

/-! ### The first input -/

theorem x_max : k0_pay102 lanes (k0_pay99 v) (k0_pay100 v) (64#32) k0_pay101 0#32 = blockMax v := rfl
theorem x_quot : k0_pay103 lanes (k0_pay99 v) (k0_pay100 v) (64#32) k0_pay101 0#32 = blockQuot v := by
  rw [k0_pay103, x_max]; rfl
theorem x_first : k0_pay104 lanes (k0_pay99 v) (k0_pay100 v) (64#32) k0_pay101 0#32 = stepV (blockQuot v) (broadcast S16x256 0#32) 128#32 := by
  rw [k0_pay104, x_quot]; rfl
theorem x_first' : k0_pay105 lanes (k0_pay99 v) (k0_pay100 v) (64#32) k0_pay101 0#32
    = addi (stepV (blockQuot v) (broadcast S16x256 0#32) 128#32) (broadcast S16x256 64#32) := by
  rw [k0_pay105, x_first]

/-- The exponents from the search's pieces. -/
theorem x_expo : k0_pay108 (blockMax v) (blockQuot v)
      (k0_pay106 (blockQuot v) (stepV (blockQuot v) (broadcast S16x256 0#32) 128#32) (addi (stepV (blockQuot v) (broadcast S16x256 0#32) 128#32) (broadcast S16x256 64#32)) 23#32)
      (k0_pay107 (blockQuot v) (stepV (blockQuot v) (broadcast S16x256 0#32) 128#32) (addi (stepV (blockQuot v) (broadcast S16x256 0#32) 128#32) (broadcast S16x256 64#32)) 23#32) 23#32
    = expoV (blockMax v) (blockQuot v) := rfl

theorem x_inv : k0_pay113
      (k0_pay111 (k0_pay102 lanes (k0_pay99 v) (k0_pay100 v) (64#32) k0_pay101 0#32) (k0_pay103 lanes (k0_pay99 v) (k0_pay100 v) (64#32) k0_pay101 0#32)
        (k0_pay106 (k0_pay103 lanes (k0_pay99 v) (k0_pay100 v) (64#32) k0_pay101 0#32) (k0_pay104 lanes (k0_pay99 v) (k0_pay100 v) (64#32) k0_pay101 0#32) (k0_pay105 lanes (k0_pay99 v) (k0_pay100 v) (64#32) k0_pay101 0#32) 23#32)
        (k0_pay107 (k0_pay103 lanes (k0_pay99 v) (k0_pay100 v) (64#32) k0_pay101 0#32) (k0_pay104 lanes (k0_pay99 v) (k0_pay100 v) (64#32) k0_pay101 0#32) (k0_pay105 lanes (k0_pay99 v) (k0_pay100 v) (64#32) k0_pay101 0#32) 23#32) 23#32)
      (k0_pay112 (k0_pay102 lanes (k0_pay99 v) (k0_pay100 v) (64#32) k0_pay101 0#32) (k0_pay103 lanes (k0_pay99 v) (k0_pay100 v) (64#32) k0_pay101 0#32)
        (k0_pay106 (k0_pay103 lanes (k0_pay99 v) (k0_pay100 v) (64#32) k0_pay101 0#32) (k0_pay104 lanes (k0_pay99 v) (k0_pay100 v) (64#32) k0_pay101 0#32) (k0_pay105 lanes (k0_pay99 v) (k0_pay100 v) (64#32) k0_pay101 0#32) 23#32)
        (k0_pay107 (k0_pay103 lanes (k0_pay99 v) (k0_pay100 v) (64#32) k0_pay101 0#32) (k0_pay104 lanes (k0_pay99 v) (k0_pay100 v) (64#32) k0_pay101 0#32) (k0_pay105 lanes (k0_pay99 v) (k0_pay100 v) (64#32) k0_pay101 0#32) 23#32) 23#32)
    = invVec v := by
  rw [x_max, x_quot, x_first, x_first', k0_pay111, k0_pay112, k0_pay110, k0_pay109, x_expo]; rfl

theorem x_scale : k0_pay114
      (k0_pay108 (k0_pay102 lanes (k0_pay99 v) (k0_pay100 v) (64#32) k0_pay101 0#32) (k0_pay103 lanes (k0_pay99 v) (k0_pay100 v) (64#32) k0_pay101 0#32)
        (k0_pay106 (k0_pay103 lanes (k0_pay99 v) (k0_pay100 v) (64#32) k0_pay101 0#32) (k0_pay104 lanes (k0_pay99 v) (k0_pay100 v) (64#32) k0_pay101 0#32) (k0_pay105 lanes (k0_pay99 v) (k0_pay100 v) (64#32) k0_pay101 0#32) 23#32)
        (k0_pay107 (k0_pay103 lanes (k0_pay99 v) (k0_pay100 v) (64#32) k0_pay101 0#32) (k0_pay104 lanes (k0_pay99 v) (k0_pay100 v) (64#32) k0_pay101 0#32) (k0_pay105 lanes (k0_pay99 v) (k0_pay100 v) (64#32) k0_pay101 0#32) 23#32) 23#32)
    = scaleVec v := by
  rw [x_max, x_quot, x_first, x_first', x_expo]; rfl

/-! ### The second input -/

/-- The first head's maxima of the second input. -/
def kFirst : FVec Ideal S16x128 .f32 := k0_pay169 lanes (k0_pay167 v) (64#32) (k0_pay168 lanes) 0#32

theorem k_max : k0_pay173 lanes (k0_pay167 v) (kFirst v) (k0_pay170 lanes) (k0_pay171 lanes) k0_pay172 = blockMax v := rfl
theorem k_quot : k0_pay174 lanes (k0_pay167 v) (kFirst v) (k0_pay170 lanes) (k0_pay171 lanes) k0_pay172 = blockQuot v := by
  rw [k0_pay174, k_max]; rfl
theorem k_second : k0_pay175 lanes (k0_pay167 v) (kFirst v) (k0_pay170 lanes) (k0_pay171 lanes) k0_pay172
    = stepV (blockQuot v) (stepV (blockQuot v) (broadcast S16x256 0#32) 128#32) 64#32 := by
  rw [k0_pay175, k_quot]; rfl
theorem k_test : k0_pay176 lanes (k0_pay167 v) (kFirst v) (k0_pay170 lanes) (k0_pay171 lanes) k0_pay172
    = cmpf .oge (blockQuot v) (bitcastToFloat .f32 (shli (addi (stepV (blockQuot v) (stepV (blockQuot v) (broadcast S16x256 0#32) 128#32) 64#32) (broadcast S16x256 32#32)) (broadcast S16x256 23#32))) := by
  rw [k0_pay176, k_quot, k_second]

theorem k_expo (y a : FVec Ideal S16x256 .f32) (C : IVec S16x256 32) (T : IVec S16x256 1)
    (hC : C = stepV y (stepV y (broadcast S16x256 0#32) 128#32) 64#32)
    (hT : T = cmpf .oge y (bitcastToFloat .f32 (shli (addi (stepV y (stepV y (broadcast S16x256 0#32) 128#32) 64#32) (broadcast S16x256 32#32)) (broadcast S16x256 23#32)))) :
    k0_pay181 a (k0_pay178 y C T k0_pay177) (k0_pay179 y C T k0_pay177) k0_pay180 = expoV a y := by
  subst hC hT; rfl

theorem k_inv : k0_pay182 (k0_pay173 lanes (k0_pay167 v) (kFirst v) (k0_pay170 lanes) (k0_pay171 lanes) k0_pay172)
      (k0_pay178 (k0_pay174 lanes (k0_pay167 v) (kFirst v) (k0_pay170 lanes) (k0_pay171 lanes) k0_pay172) (k0_pay175 lanes (k0_pay167 v) (kFirst v) (k0_pay170 lanes) (k0_pay171 lanes) k0_pay172) (k0_pay176 lanes (k0_pay167 v) (kFirst v) (k0_pay170 lanes) (k0_pay171 lanes) k0_pay172) k0_pay177)
      (k0_pay179 (k0_pay174 lanes (k0_pay167 v) (kFirst v) (k0_pay170 lanes) (k0_pay171 lanes) k0_pay172) (k0_pay175 lanes (k0_pay167 v) (kFirst v) (k0_pay170 lanes) (k0_pay171 lanes) k0_pay172) (k0_pay176 lanes (k0_pay167 v) (kFirst v) (k0_pay170 lanes) (k0_pay171 lanes) k0_pay172) k0_pay177) k0_pay180
    = invVec v := by
  rw [k_max, k_quot, k0_pay182, k_expo _ _ _ _ (k_second v) (k_test v)]; rfl

theorem k_scale : k0_pay186
      (k0_pay184 (k0_pay173 lanes (k0_pay167 v) (kFirst v) (k0_pay170 lanes) (k0_pay171 lanes) k0_pay172)
        (k0_pay178 (k0_pay174 lanes (k0_pay167 v) (kFirst v) (k0_pay170 lanes) (k0_pay171 lanes) k0_pay172) (k0_pay175 lanes (k0_pay167 v) (kFirst v) (k0_pay170 lanes) (k0_pay171 lanes) k0_pay172) (k0_pay176 lanes (k0_pay167 v) (kFirst v) (k0_pay170 lanes) (k0_pay171 lanes) k0_pay172) k0_pay177)
        (k0_pay179 (k0_pay174 lanes (k0_pay167 v) (kFirst v) (k0_pay170 lanes) (k0_pay171 lanes) k0_pay172) (k0_pay175 lanes (k0_pay167 v) (kFirst v) (k0_pay170 lanes) (k0_pay171 lanes) k0_pay172) (k0_pay176 lanes (k0_pay167 v) (kFirst v) (k0_pay170 lanes) (k0_pay171 lanes) k0_pay172) k0_pay177) k0_pay180)
      (k0_pay185 (k0_pay173 lanes (k0_pay167 v) (kFirst v) (k0_pay170 lanes) (k0_pay171 lanes) k0_pay172)
        (k0_pay178 (k0_pay174 lanes (k0_pay167 v) (kFirst v) (k0_pay170 lanes) (k0_pay171 lanes) k0_pay172) (k0_pay175 lanes (k0_pay167 v) (kFirst v) (k0_pay170 lanes) (k0_pay171 lanes) k0_pay172) (k0_pay176 lanes (k0_pay167 v) (kFirst v) (k0_pay170 lanes) (k0_pay171 lanes) k0_pay172) k0_pay177)
        (k0_pay179 (k0_pay174 lanes (k0_pay167 v) (kFirst v) (k0_pay170 lanes) (k0_pay171 lanes) k0_pay172) (k0_pay175 lanes (k0_pay167 v) (kFirst v) (k0_pay170 lanes) (k0_pay171 lanes) k0_pay172) (k0_pay176 lanes (k0_pay167 v) (kFirst v) (k0_pay170 lanes) (k0_pay171 lanes) k0_pay172) k0_pay177) k0_pay180)
    = scaleVec v := by
  rw [k_max, k_quot, k0_pay184, k0_pay185, k0_pay183, k_expo _ _ _ _ (k_second v) (k_test v)]; rfl

/-! ### The third input -/

/-- The first head's maxima of the third input. -/
def vFirst : FVec Ideal S16x128 .f32 := k0_pay213 lanes (k0_pay209 v) (k0_pay210 lanes) (k0_pay211 lanes) k0_pay212
/-- The second head's maxima of the third input. -/
def vSecond : FVec Ideal S16x1 .f32 := k0_pay214 lanes (k0_pay209 v)

theorem v_max : k0_pay215 (vFirst v) (vSecond v) = blockMax v := rfl
theorem v_quot : k0_pay216 (vFirst v) (vSecond v) = blockQuot v := rfl
theorem v_fourth : k0_pay217 (vFirst v) (vSecond v)
    = stepV (blockQuot v) (stepV (blockQuot v) (stepV (blockQuot v) (stepV (blockQuot v) (broadcast S16x256 0#32) 128#32) 64#32) 32#32) 16#32 := by
  rw [k0_pay217, v_quot]; rfl
theorem v_fourth' : k0_pay218 (vFirst v) (vSecond v)
    = addi (stepV (blockQuot v) (stepV (blockQuot v) (stepV (blockQuot v) (stepV (blockQuot v) (broadcast S16x256 0#32) 128#32) 64#32) 32#32) 16#32) (broadcast S16x256 8#32) := by
  rw [k0_pay218, v_fourth]

theorem v_expo : k0_pay221 (k0_pay219 (k0_pay216 (vFirst v) (vSecond v)) (k0_pay217 (vFirst v) (vSecond v)) (k0_pay218 (vFirst v) (vSecond v)) 23#32)
      (k0_pay220 (k0_pay215 (vFirst v) (vSecond v))) = expoV (blockMax v) (blockQuot v) := by
  rw [v_quot, v_fourth, v_fourth', v_max]; rfl

theorem v_inv : k0_pay222 (k0_pay219 (k0_pay216 (vFirst v) (vSecond v)) (k0_pay217 (vFirst v) (vSecond v)) (k0_pay218 (vFirst v) (vSecond v)) 23#32)
      (k0_pay220 (k0_pay215 (vFirst v) (vSecond v))) = invVec v := by
  rw [k0_pay222, v_expo]; rfl

theorem v_scale : k0_pay223 (F := Ideal) (k0_pay219 (k0_pay216 (vFirst v) (vSecond v)) (k0_pay217 (vFirst v) (vSecond v)) (k0_pay218 (vFirst v) (vSecond v)) 23#32)
      (k0_pay220 (k0_pay215 (vFirst v) (vSecond v))) = scaleVec v := by
  rw [k0_pay223, v_expo]; rfl

end Forms

/-! ### The maxima at an index -/

theorem fold_max_sup {n : ℕ} (f : Fin n → EReal) : Finset.univ.fold max (⊥ : EReal) f = Finset.univ.sup f := rfl

/-- The maximum magnitude of the lane `l` of the run of tokens `n`. -/
theorem laneMax_at (v : Vec Ideal S1x2048x128 .bf16) (n : Fin 16) (l : Fin 128) :
    laneMax v (ix2 n l) = Finset.univ.sup fun s : Fin 128 => mag (v (ix3 0 ⟨n.val * 128 + s.val, by omega⟩ l)) := by
  pointwise [laneMax, k0_pay209]
  rw [negInf]; rfl

/-- The quotient of the lane number by `64`, rounded down, as the kernel computes it. -/
abbrev laneQuot (x : Fin 128) : BitVec 32 :=
  Scalar.select
    (IntOp.andi
      (IntOp.cmpi CmpIPredicate.ne
        (IntOp.subi (BitVec.setWidth 32 (IntOp.cmpi CmpIPredicate.sgt (BitVec.ofNat 32 ↑x) 0#32))
          (BitVec.setWidth 32 (IntOp.cmpi CmpIPredicate.slt (BitVec.ofNat 32 ↑x) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 ↑x) 64#32) 0#32))
    (IntOp.subi (IntOp.divsi ArithUnit.vector (BitVec.ofNat 32 ↑x) 64#32) 1#32)
    (IntOp.divsi ArithUnit.vector (BitVec.ofNat 32 ↑x) 64#32)

theorem laneQuot_first : ∀ x : Fin 128, IntOp.cmpi CmpIPredicate.eq (laneQuot x) 0#32 = if x.val < 64 then 1#1 else 0#1 := by decide
theorem laneQuot_second : ∀ x : Fin 128, IntOp.cmpi CmpIPredicate.eq (laneQuot x) 1#32 = if x.val < 64 then 0#1 else 1#1 := by decide

/-- A maximum over the lanes of one head, the lanes of the other masked to zero. -/
theorem sup_masked (f : Fin 128 → EReal) (hf : ∀ x, 0 ≤ f x) (h : Fin 2) (c : Fin 128 → BitVec 1)
    (hc : ∀ x : Fin 128, c x = if x.val / 64 = h.val then 1#1 else 0#1) :
    Finset.univ.fold max (⊥ : EReal) (fun x => Scalar.select (c x) (f x) 0) = Finset.univ.sup fun d : Fin 64 => f ⟨h.val * 64 + d.val, by omega⟩ := by
  rw [fold_max_sup]
  apply le_antisymm
  · refine Finset.sup_le fun x _ => ?_
    rw [hc x]
    by_cases e : x.val / 64 = h.val
    · rw [if_pos e]
      refine le_trans (le_of_eq ?_) (Finset.le_sup (f := fun d : Fin 64 => f ⟨h.val * 64 + d.val, by omega⟩) (Finset.mem_univ (⟨x.val % 64, by omega⟩ : Fin 64)))
      show f x = f _
      congr 1; ext; show x.val = h.val * 64 + x.val % 64; omega
    · rw [if_neg e]
      exact le_trans (hf _) (Finset.le_sup (f := fun d : Fin 64 => f ⟨h.val * 64 + d.val, by omega⟩) (Finset.mem_univ (0 : Fin 64)))
  · refine Finset.sup_le fun d _ => ?_
    refine le_trans (le_of_eq ?_) (Finset.le_sup (f := fun x => Scalar.select (c x) (f x) 0) (Finset.mem_univ (⟨h.val * 64 + d.val, by omega⟩ : Fin 128)))
    show f _ = Scalar.select (c _) (f _) 0
    rw [hc, if_pos (show (h.val * 64 + d.val) / 64 = h.val by omega)]; rfl

theorem laneMax_nonneg (v : Vec Ideal S1x2048x128 .bf16) (n : Fin 16) (l : Fin 128) : 0 ≤ laneMax v (ix2 n l) := by
  rw [laneMax_at]
  exact le_trans (mag_nonneg _) (Finset.le_sup (f := fun s : Fin 128 => mag (v (ix3 0 ⟨n.val * 128 + s.val, by omega⟩ l))) (Finset.mem_univ (0 : Fin 128)))

/-- The maximum magnitude of the run of tokens `n` and the head `h` of the two of a block. -/
def amax (v : Vec Ideal S1x2048x128 .bf16) (n : Fin 16) (h : Fin 2) : EReal :=
  Finset.univ.sup fun s : Fin 128 => Finset.univ.sup fun d : Fin 64 =>
    mag (v (ix3 0 ⟨n.val * 128 + s.val, by omega⟩ ⟨h.val * 64 + d.val, by omega⟩))

theorem amax_nonneg (v : Vec Ideal S1x2048x128 .bf16) (n : Fin 16) (h : Fin 2) : 0 ≤ amax v n h :=
  le_trans (mag_nonneg _) (le_trans (Finset.le_sup (f := fun d : Fin 64 => mag (v (ix3 0 ⟨n.val * 128 + (0 : Fin 128).val, by omega⟩ ⟨h.val * 64 + d.val, by omega⟩))) (Finset.mem_univ (0 : Fin 64)))
    (Finset.le_sup (f := fun s : Fin 128 => Finset.univ.sup fun d : Fin 64 => mag (v (ix3 0 ⟨n.val * 128 + s.val, by omega⟩ ⟨h.val * 64 + d.val, by omega⟩))) (Finset.mem_univ (0 : Fin 128))))

theorem sup_laneMax (v : Vec Ideal S1x2048x128 .bf16) (n : Fin 16) (h : Fin 2) :
    (Finset.univ.sup fun d : Fin 64 => laneMax v (ix2 n ⟨h.val * 64 + d.val, by omega⟩)) = amax v n h := by
  simp only [laneMax_at]
  exact Finset.sup_comm _ _ _

/-- Every column of the first `128` holds the first head's maximum. -/
theorem firstMax_at (v : Vec Ideal S1x2048x128 .bf16) (n : Fin 16) (l : Fin 128) :
    k0_pay213 lanes (laneMax v) (k0_pay210 lanes) (k0_pay211 lanes) k0_pay212 (ix2 n l) = amax v n 0 := by
  pointwise [k0_pay213, k0_pay210, k0_pay211, k0_pay212]
  rw [negInf]
  refine (sup_masked (fun x => laneMax v (ix2 n x)) (fun x => laneMax_nonneg v n x) 0
    (fun x => IntOp.cmpi CmpIPredicate.eq (laneQuot x) 0#32) fun x => ?_).trans (sup_laneMax v n 0)
  rw [laneQuot_first]
  congr 1; rw [eq_iff_iff]; show x.val < 64 ↔ x.val / 64 = 0; omega

/-- And the second head's is kept beside it. -/
theorem secondMax_at (v : Vec Ideal S1x2048x128 .bf16) (n : Fin 16) :
    k0_pay214 lanes (laneMax v) (ix2 n 0) = amax v n 1 := by
  pointwise [k0_pay214]
  rw [negInf]
  refine (sup_masked (fun x => laneMax v (ix2 n x)) (fun x => laneMax_nonneg v n x) 1
    (fun x => IntOp.cmpi CmpIPredicate.eq (laneQuot x) 1#32) fun x => ?_).trans (sup_laneMax v n 1)
  rw [laneQuot_second]
  by_cases e : x.val < 64
  · rw [if_pos e, if_neg]; show ¬ x.val / 64 = 1; omega
  · rw [if_neg e, if_pos]; show x.val / 64 = 1; omega

theorem blockMax_at (v : Vec Ideal S1x2048x128 .bf16) (n : Fin 16) (h : Fin 2) (l : Fin 128) :
    blockMax v (ix2 n ⟨h.val * 128 + l.val, by omega⟩) = amax v n h := by
  pointwise [blockMax, k0_pay215]
  fin_cases h
  · rw [dif_pos (by show 0 * 128 + l.val < 128; omega)]
    exact (firstMax_at v n ⟨0 * 128 + l.val, by omega⟩)
  · rw [dif_neg (by show ¬ 1 * 128 + l.val < 128; omega)]
    exact secondMax_at v n

/-- The exponent of the run of tokens `n` and the head `h`. -/
def blockExpo (v : Vec Ideal S1x2048x128 .bf16) (n : Fin 16) (h : Fin 2) : ℤ := expo (amax v n h * recip448)

theorem quot_zero (v : Vec Ideal S1x2048x128 .bf16) (i : S16x256.Idx) (h : blockMax v i = 0) : blockQuot v i = 0 := by
  show blockMax v i * recip448 = 0
  rw [h, zero_mul]

/-- Every scale of the block is the power of two of its run and its head. -/
theorem scaleVec_at (v : Vec Ideal S1x2048x128 .bf16) (n : Fin 16) (h : Fin 2) (l : Fin 128) :
    scaleVec v (ix2 n ⟨h.val * 128 + l.val, by omega⟩) = pw (blockExpo v n h) := by
  rw [scaleVec, scaleV_eq _ _ _ (quot_zero v _)]
  show pw (expo (blockMax v _ * recip448)) = _
  rw [blockMax_at]; rfl

/-- And every inverse scale the inverse power. -/
theorem invVec_at (v : Vec Ideal S1x2048x128 .bf16) (n : Fin 16) (h : Fin 2) (l : Fin 128) :
    invVec v (ix2 n ⟨h.val * 128 + l.val, by omega⟩) = pw (-blockExpo v n h) := by
  rw [invVec, invV_eq _ _ _ (quot_zero v _)]
  show pw (-expo (blockMax v _ * recip448)) = _
  rw [blockMax_at]; rfl

end Cert.Quant
-- ==== Proof.Tiles.lean ====
/- The codes of one tile: a run of `128` tokens of a block, transposed, each head's half times its inverse scale, clipped. -/
module

public import proofs.«01_k».proof.Proof.Scales

@[expose] public section

set_option maxRecDepth 16384

noncomputable section

namespace Cert.Quant

open Idealize.ShloMosaic Idealize.ShloMosaic.TcCoe
open Cert.KernelIdeal Cert.KernelIdeal.Gen

/-- The clip to the range of the format: `[-448, 448]`. -/
def clip (x : EReal) : EReal := min (Ideal.ofBits .f32 0x43E00000#32) (max (Ideal.ofBits .f32 0xC3E00000#32) x)

/-- The codes of the tile of run `j`, as the kernel computes them from the inverse scales `W` and the tile `x` of tokens. -/
def codeTile (W : FVec Ideal S16x256 .f32) (j : ℕ) (hs : S16x256.Slices ![j, 0] S1x256) (x : Vec Ideal S1x128x128 .bf16) : FVec Ideal S1x128x128 .fp8e4m3 :=
  shapeCast S1x128x128 (truncf .fp8e4m3 (minimumf (broadcast S128x128 (Scalar.ofBits .f32 0x43E00000#32)) (maximumf (broadcast S128x128 (Scalar.ofBits .f32 0xC3E00000#32))
    (mulf (transpose S128x128 [1, 0] (extf .f32 (shapeCast S128x128 x shapeCasts_S1x128x128_S128x128) bitsLt_bf16_f32) transposes_S128x128_p1_0_S128x128)
      (concatenate S128x128 0
        [⟨S64x128, broadcastTo S64x128 (shapeCast S1x128 (extractStridedSlice S1x128 ![0, 0] (extractStridedSlice S1x256 ![j, 0] W hs) slices_S1x256_o0_0_S1x128) shapeCasts_S1x128_S1x128) broadcasts_S1x128_S64x128⟩,
         ⟨S64x128, broadcastTo S64x128 (shapeCast S1x128 (extractStridedSlice S1x128 ![0, 128] (extractStridedSlice S1x256 ![j, 0] W hs) slices_S1x256_o0_128_S1x128) shapeCasts_S1x128_S1x128) broadcasts_S1x128_S64x128⟩]
        concatenates_S64x128_S64x128_S128x128_d0)))) bitsLt_fp8e4m3_f32) shapeCasts_S128x128_S1x128x128

/-- A code: the token's lane `r` times the inverse scale in its head's half, clipped. -/
theorem codeTile_at (W : FVec Ideal S16x256 .f32) (j : Fin 16) (hs : S16x256.Slices ![j.val, 0] S1x256) (x : Vec Ideal S1x128x128 .bf16) (r s : Fin 128) :
    codeTile W j.val hs x (ix3 0 r s) = clip (x (ix3 0 s r) * W (ix2 j ⟨r.val / 64 * 128 + s.val, by omega⟩)) := by
  pointwise [codeTile, clip]
  by_cases h : (r : ℕ) < 64
  · simp only [dif_pos h]
    congr 3
    refine congrArg W ((ix2_inj ..).2 ⟨?_, ?_⟩) <;> ext
    · simp
    · simp; omega
  · simp only [dif_neg h]
    congr 3
    refine congrArg W ((ix2_inj ..).2 ⟨?_, ?_⟩) <;> ext
    · simp
    · simp; omega

/-- The code of run `n`, head `h` of a block, token `s` of the run, lane `d` of the head. -/
def blockCode (v : Vec Ideal S1x2048x128 .bf16) (n : Fin 16) (h : Fin 2) (s : Fin 128) (d : Fin 64) : EReal :=
  clip (v (ix3 0 ⟨n.val * 128 + s.val, by omega⟩ ⟨h.val * 64 + d.val, by omega⟩) * pw (-blockExpo v n h))

/-- The codes of a tile cut from a block. -/
theorem codeTile_block (v : Vec Ideal S1x2048x128 .bf16) (j : ℕ) (hj : j < 16) (hs : S16x256.Slices ![j, 0] S1x256) (x : Vec Ideal S1x128x128 .bf16)
    (i : S1x128x128.Idx) (hx : ∀ s r : Fin 128, x (ix3 0 s r) = v (ix3 0 ⟨j * 128 + s.val, by omega⟩ r))
    (n : Fin 16) (h : Fin 2) (s : Fin 128) (d : Fin 64) (hn : n.val = j) (h1 : (i 1).val = h.val * 64 + d.val) (h2 : (i 2).val = s.val) :
    codeTile (invVec v) j hs x i = blockCode v n h s d := by
  subst hn
  have e : i = ix3 0 ⟨h.val * 64 + d.val, by omega⟩ s := by
    refine (eq_ix3 i).trans ((ix3_inj ..).2 ⟨Subsingleton.elim _ _, Fin.ext h1, Fin.ext h2⟩)
  rw [e, codeTile_at, hx, blockCode]
  congr 2
  have := invVec_at v n h s
  refine Eq.trans (congrArg (invVec v) ((ix2_inj ..).2 ⟨rfl, ?_⟩)) this
  ext; show (h.val * 64 + d.val) / 64 * 128 + s.val = h.val * 128 + s.val; omega

end Cert.Quant
-- ==== Proof.Spec.lean ====
/- What both programs compute of the scales and the codes, as functions of an input's entries. -/
module

public import proofs.«01_k».proof.Proof.Tiles

@[expose] public section

set_option maxRecDepth 16384

noncomputable section

namespace Cert.Quant

open Idealize.ShloMosaic Idealize.ShloMosaic.TcCoe

/-- An input's entries: batch, token, column. -/
abbrev Entries : Type := Fin 8 → Fin 2048 → Fin 1024 → EReal

/-- Token `s` of the run `n`. -/
abbrev tok (n : Fin 16) (s : Fin 128) : Fin 2048 := ⟨n.val * 128 + s.val, by omega⟩

/-- Lane `d` of the head `h`. -/
abbrev col (h : Fin 16) (d : Fin 64) : Fin 1024 := ⟨h.val * 64 + d.val, by omega⟩

/-- The maximum magnitude of a block: the run `n` of the head `h`. -/
def maxOf (X : Entries) (b : Fin 8) (n h : Fin 16) : EReal :=
  Finset.univ.sup fun s : Fin 128 => Finset.univ.sup fun d : Fin 64 => mag (X b (tok n s) (col h d))

/-- The exponent of a block's scale. -/
def expoOf (X : Entries) (b : Fin 8) (n h : Fin 16) : ℤ := expo (maxOf X b n h * recip448)

/-- A block's codes. -/
def codeOf (X : Entries) (b : Fin 8) (n h : Fin 16) (s : Fin 128) (d : Fin 64) : EReal :=
  clip (X b (tok n s) (col h d) * pw (-expoOf X b n h))

/-- The entries of an array of the shape of the inputs. -/
abbrev entries (A : (⟨3, ![8, 2048, 1024]⟩ : Shape).Idx → EReal) : Entries := fun b s l => A (ix3 b s l)

/-- The array of codes: column first, token second. -/
def codeArr (X : Entries) (i : (⟨3, ![8, 1024, 2048]⟩ : Shape).Idx) : EReal :=
  codeOf X (i 0) ⟨(i 2).val / 128, by have : (i 2).val < 2048 := (i 2).isLt; omega⟩ ⟨(i 1).val / 64, by have : (i 1).val < 1024 := (i 1).isLt; omega⟩
    ⟨(i 2).val % 128, by omega⟩ ⟨(i 1).val % 64, by omega⟩

/-- The array of scales: batch, run, head. -/
def scaleArr (X : Entries) (i : (⟨3, ![8, 16, 16]⟩ : Shape).Idx) : EReal := pw (expoOf X (i 0) (i 1) (i 2))

/-- An entry of the array of codes, from its coordinates. -/
theorem codeArr_at (X : Entries) (i : (⟨3, ![8, 1024, 2048]⟩ : Shape).Idx) (b : Fin 8) (n h : Fin 16) (s : Fin 128) (d : Fin 64)
    (h0 : (i 0).val = b.val) (h1 : (i 1).val = h.val * 64 + d.val) (h2 : (i 2).val = n.val * 128 + s.val) : codeArr X i = codeOf X b n h s d := by
  unfold codeArr
  have e0 : i 0 = b := Fin.ext h0
  rw [e0]
  congr 1 <;> ext <;> simp only [] <;> omega

/-- An entry of the array of scales, from its coordinates. -/
theorem scaleArr_at (X : Entries) (i : (⟨3, ![8, 16, 16]⟩ : Shape).Idx) (b : Fin 8) (n h : Fin 16)
    (h0 : (i 0).val = b.val) (h1 : (i 1).val = n.val) (h2 : (i 2).val = h.val) : scaleArr X i = pw (expoOf X b n h) := by
  have e0 : i 0 = b := Fin.ext h0
  have e1 : i 1 = n := Fin.ext h1
  have e2 : i 2 = h := Fin.ext h2
  rw [scaleArr, e0, e1, e2]

end Cert.Quant
-- ==== Proof.Codes.lean ====
/- What a grid point leaves in its three windows of codes. -/
module

public import proofs.«01_k».proof.Proof.Tiles
public import proofs.«01_k».proof.Proof.Exact.Frame
public import Idealize.ShloMosaic.Lib.Pipeline.ValueKit

@[expose] public section

set_option maxRecDepth 16384

noncomputable section

namespace Cert.Quant

open Idealize.ShloMosaic Idealize.ShloMosaic.TcCoe Idealize.SL Idealize.SL.Sem
open Cert.KernelIdeal Cert.KernelIdeal.Gen

variable (m : (ℓ : Loc nD τ sig) → Buf (Elt Ideal) ℓ)

/-- The codes of the first input: column `g * 64 + d` of the block, token `n * 128 + s`. -/
theorem codes_x (c : Dev nD) (t : Fin cfg0.N) (y : S1x128x2048.Idx) (n : Fin 16) (g : Fin 2) (s : Fin 128) (d : Fin 64)
    (e1 : (y 1).val = g.val * 64 + d.val) (e2 : (y 2).val = n.val * 128 + s.val) :
    (outsAt0 m c t.val t.isLt).2.1 y = blockCode (iblk m c 0 t) n g s d := by
  by_cases hc : t.val % 8 = 0
  · rw [outsAt0_A m c t hc hc hc]
    dsimp only
    frame_out
    canon_tiles x h
    all_goals
      refine codeTile_block (iblk m c 0 t) _ ?_ ?_ _ x ?_ n g s d ?_ ?_ ?_
      all_goals first | omega | decide | (intro s r; pointwise)
  · rw [outsAt0_B m c t hc hc hc]
    dsimp only
    frame_out
    canon_tiles x h
    all_goals
      refine codeTile_block (iblk m c 0 t) _ ?_ ?_ _ x ?_ n g s d ?_ ?_ ?_
      all_goals first | omega | decide | (intro s r; pointwise)

/-- The codes of the second input: column `g * 64 + d` of the block, token `n * 128 + s`. -/
theorem codes_k (c : Dev nD) (t : Fin cfg0.N) (y : S1x128x2048.Idx) (n : Fin 16) (g : Fin 2) (s : Fin 128) (d : Fin 64)
    (e1 : (y 1).val = g.val * 64 + d.val) (e2 : (y 2).val = n.val * 128 + s.val) :
    (outsAt0 m c t.val t.isLt).2.2.2.1 y = blockCode (iblk m c 1 t) n g s d := by
  by_cases hc : t.val % 8 = 0
  · rw [outsAt0_A m c t hc hc hc]
    dsimp only
    frame_out
    canon_tiles x h
    all_goals
      refine codeTile_block (iblk m c 1 t) _ ?_ ?_ _ x ?_ n g s d ?_ ?_ ?_
      all_goals first | omega | decide | (intro s r; pointwise)
  · rw [outsAt0_B m c t hc hc hc]
    dsimp only
    frame_out
    canon_tiles x h
    all_goals
      refine codeTile_block (iblk m c 1 t) _ ?_ ?_ _ x ?_ n g s d ?_ ?_ ?_
      all_goals first | omega | decide | (intro s r; pointwise)

/-- The codes of the third input: column `g * 64 + d` of the block, token `n * 128 + s`. -/
theorem codes_v (c : Dev nD) (t : Fin cfg0.N) (y : S1x128x2048.Idx) (n : Fin 16) (g : Fin 2) (s : Fin 128) (d : Fin 64)
    (e1 : (y 1).val = g.val * 64 + d.val) (e2 : (y 2).val = n.val * 128 + s.val) :
    (outsAt0 m c t.val t.isLt).2.2.2.2.2.1 y = blockCode (iblk m c 2 t) n g s d := by
  by_cases hc : t.val % 8 = 0
  · rw [outsAt0_A m c t hc hc hc]
    dsimp only
    frame_out
    canon_tiles x h
    all_goals
      refine codeTile_block (iblk m c 2 t) _ ?_ ?_ _ x ?_ n g s d ?_ ?_ ?_
      all_goals first | omega | decide | (intro s r; pointwise)
  · rw [outsAt0_B m c t hc hc hc]
    dsimp only
    frame_out
    canon_tiles x h
    all_goals
      refine codeTile_block (iblk m c 2 t) _ ?_ ?_ _ x ?_ n g s d ?_ ?_ ?_
      all_goals first | omega | decide | (intro s r; pointwise)

end Cert.Quant
-- ==== Proof.ScaleRows.lean ====
/- What a grid point stores in its three windows of scales.

   A window holds the scales of all `16` heads, head by column. Point `hp` writes the columns of its own two heads and leaves
   the others as the point before left them. -/
module

public import proofs.«01_k».proof.Proof.Scales

@[expose] public section

set_option maxRecDepth 16384

noncomputable section

namespace Cert.Quant

open Idealize.ShloMosaic Idealize.ShloMosaic.TcCoe
open Cert.KernelIdeal Cert.KernelIdeal.Gen

/-- The store: the columns of the two heads of point `hp` replaced by the scales `W`, a column of the block for each. -/
def placed (v : Vec Ideal S1x2048x128 .bf16) (hp : Fin 8) (prev : Vec Ideal S1x16x16 .f32) (n h : Fin 16) : EReal :=
  if h.val / 2 = hp.val then pw (blockExpo v n ⟨h.val % 2, by omega⟩) else prev (ix3 0 n h)

/-- The store from its two tests: whether the column's head is one of the point's two, and which of the two. -/
theorem placed_of (v : Vec Ideal S1x2048x128 .bf16) (hp : Fin 8) (prev : Vec Ideal S1x16x16 .f32) (n h : Fin 16) (c1 c2 : BitVec 1)
    (e1 : c1 = if h.val / 2 = hp.val then 1#1 else 0#1) (e2 : c2 = if h.val % 2 = 1 then 1#1 else 0#1) :
    Scalar.select c1 (Scalar.select c2 (scaleVec v (ix2 n ⟨128 + h.val, by omega⟩)) (scaleVec v (ix2 n ⟨h.val, by omega⟩))) (prev (ix3 0 n h))
      = placed v hp prev n h := by
  subst e1 e2
  unfold placed
  by_cases h1 : h.val / 2 = hp.val
  · simp only [if_pos h1]
    by_cases h2 : h.val % 2 = 1
    · simp only [if_pos h2]
      refine Eq.trans ?_ (scaleVec_at v n ⟨h.val % 2, by omega⟩ ⟨h.val, by omega⟩)
      show scaleVec v _ = scaleVec v _
      congr 2; ext; show 128 + h.val = h.val % 2 * 128 + h.val; omega
    · simp only [if_neg h2]
      refine Eq.trans ?_ (scaleVec_at v n ⟨h.val % 2, by omega⟩ ⟨h.val, by omega⟩)
      show scaleVec v _ = scaleVec v _
      congr 2; ext; show h.val = h.val % 2 * 128 + h.val; omega
  · simp only [if_neg h1]; rfl

theorem scale_x_at (v : Vec Ideal S1x2048x128 .bf16) (e : IVec S16x256 32) (hW : k0_pay114 e = scaleVec v) (hp : Fin 8) (prev : Vec Ideal S1x16x16 .f32) (n h : Fin 16) :
    k0_pay118 (BitVec.ofNat 32 hp.val) heads (k0_pay117 heads e) prev (ix3 0 n h) = placed v hp prev n h := by
  pointwise [k0_pay118, k0_pay117]
  rw [hW]
  refine placed_of v hp prev n h _ _ ?_ ?_
  · revert hp h; decide
  · revert h; decide

theorem scale_k_at (v : Vec Ideal S1x2048x128 .bf16) (a : FVec Ideal S16x256 .f32) (b : IVec S16x256 32) (hW : k0_pay186 a b = scaleVec v) (hp : Fin 8) (prev : Vec Ideal S1x16x16 .f32) (n h : Fin 16) :
    k0_pay192 (BitVec.ofNat 32 hp.val) heads (k0_pay189 heads a b) (2#32) (k0_pay190 heads) (k0_pay191 heads) (1#32) (0#32) prev (ix3 0 n h) = placed v hp prev n h := by
  pointwise [k0_pay192, k0_pay189, k0_pay190, k0_pay191]
  rw [hW]
  refine placed_of v hp prev n h _ _ ?_ ?_
  · revert hp h; decide
  · revert h; decide

theorem scale_v_at (v : Vec Ideal S1x2048x128 .bf16) (a : IVec S16x256 32) (b : IVec S16x256 1) (hW : k0_pay223 (F := Ideal) a b = scaleVec v) (hp : Fin 8) (prev : Vec Ideal S1x16x16 .f32) (n h : Fin 16) :
    k0_pay229 (k0_pay227 heads (k0_pay223 a b) (k0_pay226 a b) 2#32 (Scalar.cmpi .eq 2#32 0#32)) (k0_pay228 (BitVec.ofNat 32 hp.val) heads) prev (ix3 0 n h) = placed v hp prev n h := by
  pointwise [k0_pay229, k0_pay227, k0_pay228, k0_pay226]
  rw [hW]
  refine placed_of v hp prev n h _ _ ?_ ?_
  · revert hp h; decide
  · revert h; decide

end Cert.Quant
-- ==== Proof.ScaleWindows.lean ====
/- The three windows of scales at the last point of a batch.

   The eight points of a batch leave their heads' columns one after another (`ScaleRows`), so that point `hp` has the scales of
   the heads `0 … 2 * hp + 1`, and the last point all `16`. -/
module

public import proofs.«01_k».proof.Proof.ScaleRows
public import proofs.«01_k».proof.Proof.Exact.Frame
public import Idealize.ShloMosaic.Lib.Pipeline.ValueKit

@[expose] public section

set_option maxRecDepth 16384

noncomputable section

namespace Cert.Quant

open Idealize.ShloMosaic Idealize.ShloMosaic.TcCoe Idealize.SL Idealize.SL.Sem
open Cert.KernelIdeal Cert.KernelIdeal.Gen

variable (m : (ℓ : Loc nD τ sig) → Buf (Elt Ideal) ℓ)

/-- A point's second coordinate is its place among the eight of its batch. -/
theorem coord_pair (t : Fin cfg0.N) : (grid0.coords t 1).val = t.val % 8 :=
  (by decide +kernel : ∀ t : Fin grid0.N, (grid0.coords t 1).val = t.val % 8) t

/-- The exponent of run `n` and head `h` of the batch of point `t`, in the blocks `B` of the points. -/
def headExpo (B : Fin cfg0.N → Vec Ideal S1x2048x128 .bf16) (t : ℕ) (ht : t < 64) (n h : Fin 16) : ℤ :=
  blockExpo (B ⟨t / 8 * 8 + h.val / 2, lt_of_lt_of_eq (show _ < 64 by omega) N_0.symm⟩) n ⟨h.val % 2, by omega⟩

/-- A window that each point fills in its own two columns of holds, after point `t`, the columns of the heads so far. -/
theorem filled (B : Fin cfg0.N → Vec Ideal S1x2048x128 .bf16) (O : (t : ℕ) → t < cfg0.N → Vec Ideal S1x16x16 .f32)
    (hA : ∀ t : Fin cfg0.N, t.val % 8 = 0 → ∃ prev, ∀ n h, O t.val t.isLt (ix3 0 n h) = placed (B t) ⟨t.val % 8, by omega⟩ prev n h)
    (hB : ∀ t : Fin cfg0.N, ¬ t.val % 8 = 0 → ∀ n h, O t.val t.isLt (ix3 0 n h)
      = placed (B t) ⟨t.val % 8, by omega⟩ (O (t.val - 1) (Nat.lt_of_le_of_lt (Nat.sub_le _ _) t.isLt)) n h)
    (t : ℕ) (ht : t < cfg0.N) (ht' : t < 64) (n h : Fin 16) (hh : h.val / 2 ≤ t % 8) : O t ht (ix3 0 n h) = pw (headExpo B t ht' n h) := by
  have own : ∀ prev, h.val / 2 = t % 8 → placed (B ⟨t, ht⟩) ⟨t % 8, by omega⟩ prev n h = pw (headExpo B t ht' n h) := fun prev e => by
    rw [placed, if_pos e, headExpo]
    congr 3; ext; show t = t / 8 * 8 + h.val / 2; omega
  induction t with
  | zero =>
    obtain ⟨prev, hp⟩ := hA ⟨0, ht⟩ rfl
    exact (hp n h).trans (own prev (by omega))
  | succ t ih =>
    by_cases h0 : (t + 1) % 8 = 0
    · obtain ⟨prev, hp⟩ := hA ⟨t + 1, ht⟩ h0
      exact (hp n h).trans (own prev (by omega))
    · refine (hB ⟨t + 1, ht⟩ h0 n h).trans ?_
      by_cases e : h.val / 2 = (t + 1) % 8
      · exact own _ e
      · rw [placed, if_neg e]
        refine (ih (by omega) (by omega) (by omega) fun prev e' => ?_).trans ?_
        · rw [placed, if_pos e', headExpo]
          congr 3; ext; show t = t / 8 * 8 + h.val / 2; omega
        · unfold headExpo; congr 3; ext; show t / 8 * 8 + h.val / 2 = (t + 1) / 8 * 8 + h.val / 2; omega

/-- The scales of the first input after point `t`. -/
theorem scales_x (c : Dev nD) (t : ℕ) (ht : t < cfg0.N) (ht' : t < 64) (n h : Fin 16) (hh : h.val / 2 ≤ t % 8) :
    (outsAt0 m c t ht).2.2.1 (ix3 0 n h) = pw (headExpo (fun t => iblk m c 0 t) t ht' n h) := by
  refine filled (fun t => iblk m c 0 t) (fun t ht => (outsAt0 m c t ht).2.2.1) ?_ ?_ t ht ht' n h hh
  · intro t hc
    refine ⟨k0_pay116 (F := Ideal), fun n h => ?_⟩
    rw [outsAt0_A m c t hc hc hc]
    dsimp only
    frame_out
    rw [coord_pair]
    exact scale_x_at _ _ (x_scale _) ⟨t.val % 8, by omega⟩ _ n h
  · intro t hc n h
    rw [outsAt0_B m c t hc hc hc]
    dsimp only
    frame_out
    rw [coord_pair]
    exact scale_x_at _ _ (x_scale _) ⟨t.val % 8, by omega⟩ _ n h

/-- The scales of the second input after point `t`. -/
theorem scales_k (c : Dev nD) (t : ℕ) (ht : t < cfg0.N) (ht' : t < 64) (n h : Fin 16) (hh : h.val / 2 ≤ t % 8) :
    (outsAt0 m c t ht).2.2.2.2.1 (ix3 0 n h) = pw (headExpo (fun t => iblk m c 1 t) t ht' n h) := by
  refine filled (fun t => iblk m c 1 t) (fun t ht => (outsAt0 m c t ht).2.2.2.2.1) ?_ ?_ t ht ht' n h hh
  · intro t hc
    refine ⟨k0_pay188 (F := Ideal), fun n h => ?_⟩
    rw [outsAt0_A m c t hc hc hc]
    dsimp only
    frame_out
    rw [coord_pair]
    exact scale_k_at _ _ _ (k_scale _) ⟨t.val % 8, by omega⟩ _ n h
  · intro t hc n h
    rw [outsAt0_B m c t hc hc hc]
    dsimp only
    frame_out
    rw [coord_pair]
    exact scale_k_at _ _ _ (k_scale _) ⟨t.val % 8, by omega⟩ _ n h

/-- The scales of the third input after point `t`. -/
theorem scales_v (c : Dev nD) (t : ℕ) (ht : t < cfg0.N) (ht' : t < 64) (n h : Fin 16) (hh : h.val / 2 ≤ t % 8) :
    (outsAt0 m c t ht).2.2.2.2.2.2 (ix3 0 n h) = pw (headExpo (fun t => iblk m c 2 t) t ht' n h) := by
  refine filled (fun t => iblk m c 2 t) (fun t ht => (outsAt0 m c t ht).2.2.2.2.2.2) ?_ ?_ t ht ht' n h hh
  · intro t hc
    refine ⟨k0_pay225 (F := Ideal), fun n h => ?_⟩
    rw [outsAt0_A m c t hc hc hc]
    dsimp only
    frame_out
    rw [coord_pair]
    exact scale_v_at _ _ _ (v_scale _) ⟨t.val % 8, by omega⟩ _ n h
  · intro t hc n h
    rw [outsAt0_B m c t hc hc hc]
    dsimp only
    frame_out
    rw [coord_pair]
    exact scale_v_at _ _ _ (v_scale _) ⟨t.val % 8, by omega⟩ _ n h

end Cert.Quant
-- ==== Proof.Exact.Value.lean ====
/- Text of the proof generator, written with its test on scratch read back in a loop relaxed for `arg14` (it refuses this
   kernel otherwise), then copied here with the imports renamed and the `#` lines left out; not regenerated.
   The VALUE LEG of proofs.«01_k».proof.KernelIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   the kernel takes operands the pipeline does not stage (a scratch operand, or one left in HBM).
   The certificate's hand proof unfolds the named terms `flushed_w_κ` cites and sets `run_blocks` beside the
   reference's run. -/
module

public import proofs.«01_k».proof.Proof.Exact.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 8 = 0) (h1 : t.val % 8 = 0) (h2 : t.val % 8 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed3, outsAt0_A m c t h0 h1 h2]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 8 = 0) (h1 : ¬t.val % 8 = 0) (h2 : ¬t.val % 8 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed3, outsAt0_B m c t h0 h1 h2]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8x2048x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 8 = 0) (h1 : t.val % 8 = 0) (h2 : t.val % 8 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed4, outsAt0_A m c t h0 h1 h2]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 8 = 0) (h1 : ¬t.val % 8 = 0) (h2 : ¬t.val % 8 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed4, outsAt0_B m c t h0 h1 h2]

/-- The index map sends distinct grid points to distinct block indices (decided over the 64 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8x1024x2048.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 8 = 0) (h1 : t.val % 8 = 0) (h2 : t.val % 8 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 8 = 0) (h1 : ¬t.val % 8 = 0) (h2 : ¬t.val % 8 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed5, outsAt0_B m c t h0 h1 h2]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S8x16x16.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 3), read through the window's block. -/
theorem flushed6 (c : Dev nD) (t : Fin cfg0.N) :
    (dats m 0 c).flushed 6 t = (cfg0.win 6).cut (grid0.coords t) ((outsAt0 m c t.val t.isLt).2.2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 8 = 0) (h1 : t.val % 8 = 0) (h2 : t.val % 8 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed6, outsAt0_A m c t h0 h1 h2]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 8 = 0) (h1 : ¬t.val % 8 = 0) (h2 : ¬t.val % 8 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed6, outsAt0_B m c t h0 h1 h2]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8x1024x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 4), read through the window's block. -/
theorem flushed7 (c : Dev nD) (t : Fin cfg0.N) :
    (dats m 0 c).flushed 7 t = (cfg0.win 7).cut (grid0.coords t) ((outsAt0 m c t.val t.isLt).2.2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 8 = 0) (h1 : t.val % 8 = 0) (h2 : t.val % 8 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed7, outsAt0_A m c t h0 h1 h2]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 8 = 0) (h1 : ¬t.val % 8 = 0) (h2 : ¬t.val % 8 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed7, outsAt0_B m c t h0 h1 h2]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S8x16x16.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 5), read through the window's block. -/
theorem flushed8 (c : Dev nD) (t : Fin cfg0.N) :
    (dats m 0 c).flushed 8 t = (cfg0.win 8).cut (grid0.coords t) ((outsAt0 m c t.val t.isLt).2.2.2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 8 = 0) (h1 : t.val % 8 = 0) (h2 : t.val % 8 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed8, outsAt0_A m c t h0 h1 h2]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 8 = 0) (h1 : ¬t.val % 8 = 0) (h2 : ¬t.val % 8 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed8, outsAt0_B m c t h0 h1 h2]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x1024x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 6), read through the window's block. -/
theorem flushed9 (c : Dev nD) (t : Fin cfg0.N) :
    (dats m 0 c).flushed 9 t = (cfg0.win 9).cut (grid0.coords t) ((outsAt0 m c t.val t.isLt).2.2.2.2.2.2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 8 = 0) (h1 : t.val % 8 = 0) (h2 : t.val % 8 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) ((hcond0_2 t).mpr h2) (iblk m c 0 t) (iblk m c 1 t) (iblk m c 2 t)) := by
  simp only [flushed9, outsAt0_A m c t h0 h1 h2]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 8 = 0) (h1 : ¬t.val % 8 = 0) (h2 : ¬t.val % 8 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  simp only [flushed9, outsAt0_B m c t h0 h1 h2]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S8x16x16.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_v0_5) = (dats m 0 c).arrAt 8 cfg0.N
      ∧ r.2.mem ((c : Thread nD τ).loc main_v0_6) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      post7 m r h c,
      post8 m r h c,
      post9 m r h c,
      kept_main_arg0 m r h c,
      kept_main_arg1 m r h c,
      kept_main_arg2 m r h c⟩)
    (run_main m ρ)

end Cert.KernelIdeal.Value

end
-- ==== Proof.Arrays.lean ====
/- The kernel's arrays of codes and scales after the run. -/
module

public import proofs.«01_k».proof.Proof.Spec
public import proofs.«01_k».proof.Proof.Codes
public import proofs.«01_k».proof.Proof.ScaleWindows
public import proofs.«01_k».proof.Proof.Exact.Value

@[expose] public section

set_option maxRecDepth 16384

noncomputable section

namespace Cert.Quant

open Idealize.ShloMosaic Idealize.ShloMosaic.TcCoe Idealize.SL Idealize.SL.Sem
open Cert.KernelIdeal Cert.KernelIdeal.Gen

variable (m : (ℓ : Loc nD τ sig) → Buf (Elt Ideal) ℓ)

theorem index0 (t : Fin cfg0.N) : win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8) t
theorem index1 (t : Fin cfg0.N) : win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8) t
theorem index2 (t : Fin cfg0.N) : win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8) t
theorem index3 (t : Fin cfg0.N) : win0_3.index t 0 = t.val / 8 ∧ win0_3.index t 1 = 0 ∧ win0_3.index t 2 = t.val % 8 :=
  (by decide +kernel : ∀ t : Fin grid0.N, win0_3.index t 0 = t.val / 8 ∧ win0_3.index t 1 = 0 ∧ win0_3.index t 2 = t.val % 8) t
theorem index4 (t : Fin cfg0.N) : win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0) t
theorem index5 (t : Fin cfg0.N) : win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0) t
theorem index6 (t : Fin cfg0.N) : win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0) t
theorem index7 (t : Fin cfg0.N) : win0_7.index t 0 = t.val / 8 ∧ win0_7.index t 1 = 0 ∧ win0_7.index t 2 = 0 :=
  (by decide +kernel : ∀ t : Fin grid0.N, win0_7.index t 0 = t.val / 8 ∧ win0_7.index t 1 = 0 ∧ win0_7.index t 2 = 0) t
theorem index8 (t : Fin cfg0.N) : win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0) t
theorem index9 (t : Fin cfg0.N) : win0_9.index t 0 = t.val / 8 ∧ win0_9.index t 1 = 0 ∧ win0_9.index t 2 = 0 :=
  (by decide +kernel : ∀ t : Fin grid0.N, win0_9.index t 0 = t.val / 8 ∧ win0_9.index t 1 = 0 ∧ win0_9.index t 2 = 0) t

theorem lt64 (t : Fin cfg0.N) : t.val < 64 := lt_of_lt_of_eq t.isLt N_0

/-- What a block's maxima and codes are, when its entries are those of the input `X`: batch `t / 8`, columns `t % 8 * 128 …`. -/
theorem blockExpo_of (v : Vec Ideal S1x2048x128 .bf16) (X : Entries) (p : Fin 8) (b : Fin 8) (hv : ∀ (s : Fin 2048) (l : Fin 128), v (ix3 0 s l) = X b s ⟨p.val * 128 + l.val, by omega⟩)
    (n : Fin 16) (g : Fin 2) (h : Fin 16) (hh : h.val = p.val * 2 + g.val) : blockExpo v n g = expoOf X b n h := by
  unfold blockExpo expoOf amax maxOf
  simp only [hv]
  congr 5; funext s; congr 1; funext d; congr 2; ext
  show p.val * 128 + (g.val * 64 + d.val) = h.val * 64 + d.val; omega

theorem blockCode_of (v : Vec Ideal S1x2048x128 .bf16) (X : Entries) (p : Fin 8) (b : Fin 8) (hv : ∀ (s : Fin 2048) (l : Fin 128), v (ix3 0 s l) = X b s ⟨p.val * 128 + l.val, by omega⟩)
    (n : Fin 16) (g : Fin 2) (s : Fin 128) (d : Fin 64) (h : Fin 16) (hh : h.val = p.val * 2 + g.val) : blockCode v n g s d = codeOf X b n h s d := by
  unfold blockCode codeOf
  rw [hv, blockExpo_of v X p b hv n g h hh]
  congr 3; ext
  show p.val * 128 + (g.val * 64 + d.val) = h.val * 64 + d.val; omega

theorem headExpo_of (B : Fin cfg0.N → Vec Ideal S1x2048x128 .bf16) (X : Entries)
    (hv : ∀ (t : Fin cfg0.N) (s : Fin 2048) (l : Fin 128), B t (ix3 0 s l) = X ⟨t.val / 8, by have := lt64 t; omega⟩ s ⟨t.val % 8 * 128 + l.val, by omega⟩)
    (t : ℕ) (ht' : t < cfg0.N) (ht : t < 64) (n h : Fin 16) : headExpo B t ht n h = expoOf X ⟨t / 8, by omega⟩ n h := by
  have pt : ∀ (T : Fin cfg0.N) (g : Fin 2) (b : Fin 8), T.val % 8 * 2 + g.val = h.val → b.val = T.val / 8 → blockExpo (B T) n g = expoOf X b n h := by
    intro T g b e eb
    have hb : b = ⟨T.val / 8, by have := lt64 T; omega⟩ := Fin.ext eb
    rw [hb]
    exact blockExpo_of (B T) X ⟨T.val % 8, by omega⟩ _ (hv T) n g h e.symm
  exact pt _ _ _ (by show (t / 8 * 8 + h.val / 2) % 8 * 2 + h.val % 2 = h.val; omega) (by show t / 8 = (t / 8 * 8 + h.val / 2) / 8; omega)

/-- A block of the first input is one batch's tokens and `128` columns. -/
theorem block_x (c : Dev nD) (t : Fin cfg0.N) (s : Fin 2048) (l : Fin 128) :
    iblk m c 0 t (ix3 0 s l) = entries (m ((c : Thread nD τ).loc main_arg0)) ⟨t.val / 8, by have := lt64 t; omega⟩ s ⟨t.val % 8 * 128 + l.val, by omega⟩ := by
  obtain ⟨e0, e1, e2⟩ := index0 t
  blk_simp [iblk]
  refine (congrFun (V_main_arg0 m c) _).trans (congrArg (m ((c : Thread nD τ).loc main_arg0)) ?_)
  blk_ext [e0, e1, e2]

/-- A block of the second input is one batch's tokens and `128` columns. -/
theorem block_k (c : Dev nD) (t : Fin cfg0.N) (s : Fin 2048) (l : Fin 128) :
    iblk m c 1 t (ix3 0 s l) = entries (m ((c : Thread nD τ).loc main_arg1)) ⟨t.val / 8, by have := lt64 t; omega⟩ s ⟨t.val % 8 * 128 + l.val, by omega⟩ := by
  obtain ⟨e0, e1, e2⟩ := index1 t
  blk_simp [iblk]
  refine (congrFun (V_main_arg1 m c) _).trans (congrArg (m ((c : Thread nD τ).loc main_arg1)) ?_)
  blk_ext [e0, e1, e2]

/-- A block of the third input is one batch's tokens and `128` columns. -/
theorem block_v (c : Dev nD) (t : Fin cfg0.N) (s : Fin 2048) (l : Fin 128) :
    iblk m c 2 t (ix3 0 s l) = entries (m ((c : Thread nD τ).loc main_arg2)) ⟨t.val / 8, by have := lt64 t; omega⟩ s ⟨t.val % 8 * 128 + l.val, by omega⟩ := by
  obtain ⟨e0, e1, e2⟩ := index2 t
  blk_simp [iblk]
  refine (congrFun (V_main_arg2 m c) _).trans (congrArg (m ((c : Thread nD τ).loc main_arg2)) ?_)
  blk_ext [e0, e1, e2]

theorem arr_codes_x (c : Dev nD) : (dats m 0 c).arrAt 4 cfg0.N = codeArr (entries (m ((c : Thread nD τ).loc main_arg0))) := by
  refine (dats m 0 c).arrAt_eq_of_covers 4 _ (by decide +kernel) fun t hf y => ?_
  obtain ⟨e0, e1, e2⟩ := index4 t
  have ht := lt64 t
  blk_simp
  rw [after0_4]
  have y1 : (y 1).val < 128 := (y 1).isLt
  have y2 : (y 2).val < 2048 := (y 2).isLt
  refine (codes_x m c t y ⟨(y 2).val / 128, by omega⟩ ⟨(y 1).val / 64, by omega⟩ ⟨(y 2).val % 128, by omega⟩ ⟨(y 1).val % 64, by omega⟩ (by show _ = (y 1).val / 64 * 64 + (y 1).val % 64; omega) (by show _ = (y 2).val / 128 * 128 + (y 2).val % 128; omega)).trans ?_
  refine (blockCode_of _ _ ⟨t.val % 8, by omega⟩ _ (block_x m c t) _ _ _ _ ⟨t.val % 8 * 2 + (y 1).val / 64, by omega⟩ rfl).trans ?_
  refine (codeArr_at _ _ _ _ _ _ _ ?_ ?_ ?_).symm
  · blk_simp [e0]
  · blk_simp [e1]
    show _ = (t.val % 8 * 2 + (y 1).val / 64) * 64 + (y 1).val % 64
    omega
  · blk_simp [e2]
    show _ = (y 2).val / 128 * 128 + (y 2).val % 128
    omega

theorem arr_scale_x (c : Dev nD) : (dats m 0 c).arrAt 5 cfg0.N = scaleArr (entries (m ((c : Thread nD τ).loc main_arg0))) := by
  refine (dats m 0 c).arrAt_eq_of_covers 5 _ (by decide +kernel) fun t hf y => ?_
  obtain ⟨e0, e1, e2⟩ := index5 t
  have hl : t.val % 8 = 7 := (by decide +kernel : ∀ t : Fin grid0.N, (cfg0.win 5).flush t = true → t.val % 8 = 7) t hf
  blk_simp
  rw [after0_5]
  have ht := lt64 t
  obtain ⟨y0, y1, y2, rfl⟩ : ∃ (a : Fin 1) (n h : Fin 16), y = (ix3 a n h : S1x16x16.Idx) := ⟨y 0, y 1, y 2, eq_ix3 y⟩
  obtain rfl : y0 = 0 := Subsingleton.elim _ _
  refine (scales_x m c t.val t.isLt ht y1 y2 (by have := y2.isLt; omega)).trans ?_
  rw [headExpo_of _ _ (block_x m c) t.val t.isLt ht]
  refine (scaleArr_at _ _ _ _ _ ?_ ?_ ?_).symm
  · blk_simp [e0]
    rfl
  · blk_simp [e1]
  · blk_simp [e2]

theorem arr_codes_k (c : Dev nD) : (dats m 0 c).arrAt 6 cfg0.N = codeArr (entries (m ((c : Thread nD τ).loc main_arg1))) := by
  refine (dats m 0 c).arrAt_eq_of_covers 6 _ (by decide +kernel) fun t hf y => ?_
  obtain ⟨e0, e1, e2⟩ := index6 t
  have ht := lt64 t
  blk_simp
  rw [after0_6]
  have y1 : (y 1).val < 128 := (y 1).isLt
  have y2 : (y 2).val < 2048 := (y 2).isLt
  refine (codes_k m c t y ⟨(y 2).val / 128, by omega⟩ ⟨(y 1).val / 64, by omega⟩ ⟨(y 2).val % 128, by omega⟩ ⟨(y 1).val % 64, by omega⟩ (by show _ = (y 1).val / 64 * 64 + (y 1).val % 64; omega) (by show _ = (y 2).val / 128 * 128 + (y 2).val % 128; omega)).trans ?_
  refine (blockCode_of _ _ ⟨t.val % 8, by omega⟩ _ (block_k m c t) _ _ _ _ ⟨t.val % 8 * 2 + (y 1).val / 64, by omega⟩ rfl).trans ?_
  refine (codeArr_at _ _ _ _ _ _ _ ?_ ?_ ?_).symm
  · blk_simp [e0]
  · blk_simp [e1]
    show _ = (t.val % 8 * 2 + (y 1).val / 64) * 64 + (y 1).val % 64
    omega
  · blk_simp [e2]
    show _ = (y 2).val / 128 * 128 + (y 2).val % 128
    omega

theorem arr_scale_k (c : Dev nD) : (dats m 0 c).arrAt 7 cfg0.N = scaleArr (entries (m ((c : Thread nD τ).loc main_arg1))) := by
  refine (dats m 0 c).arrAt_eq_of_covers 7 _ (by decide +kernel) fun t hf y => ?_
  obtain ⟨e0, e1, e2⟩ := index7 t
  have hl : t.val % 8 = 7 := (by decide +kernel : ∀ t : Fin grid0.N, (cfg0.win 7).flush t = true → t.val % 8 = 7) t hf
  blk_simp
  rw [after0_7]
  have ht := lt64 t
  obtain ⟨y0, y1, y2, rfl⟩ : ∃ (a : Fin 1) (n h : Fin 16), y = (ix3 a n h : S1x16x16.Idx) := ⟨y 0, y 1, y 2, eq_ix3 y⟩
  obtain rfl : y0 = 0 := Subsingleton.elim _ _
  refine (scales_k m c t.val t.isLt ht y1 y2 (by have := y2.isLt; omega)).trans ?_
  rw [headExpo_of _ _ (block_k m c) t.val t.isLt ht]
  refine (scaleArr_at _ _ _ _ _ ?_ ?_ ?_).symm
  · blk_simp [e0]
    rfl
  · blk_simp [e1]
  · blk_simp [e2]

theorem arr_codes_v (c : Dev nD) : (dats m 0 c).arrAt 8 cfg0.N = codeArr (entries (m ((c : Thread nD τ).loc main_arg2))) := by
  refine (dats m 0 c).arrAt_eq_of_covers 8 _ (by decide +kernel) fun t hf y => ?_
  obtain ⟨e0, e1, e2⟩ := index8 t
  have ht := lt64 t
  blk_simp
  rw [after0_8]
  have y1 : (y 1).val < 128 := (y 1).isLt
  have y2 : (y 2).val < 2048 := (y 2).isLt
  refine (codes_v m c t y ⟨(y 2).val / 128, by omega⟩ ⟨(y 1).val / 64, by omega⟩ ⟨(y 2).val % 128, by omega⟩ ⟨(y 1).val % 64, by omega⟩ (by show _ = (y 1).val / 64 * 64 + (y 1).val % 64; omega) (by show _ = (y 2).val / 128 * 128 + (y 2).val % 128; omega)).trans ?_
  refine (blockCode_of _ _ ⟨t.val % 8, by omega⟩ _ (block_v m c t) _ _ _ _ ⟨t.val % 8 * 2 + (y 1).val / 64, by omega⟩ rfl).trans ?_
  refine (codeArr_at _ _ _ _ _ _ _ ?_ ?_ ?_).symm
  · blk_simp [e0]
  · blk_simp [e1]
    show _ = (t.val % 8 * 2 + (y 1).val / 64) * 64 + (y 1).val % 64
    omega
  · blk_simp [e2]
    show _ = (y 2).val / 128 * 128 + (y 2).val % 128
    omega

theorem arr_scale_v (c : Dev nD) : (dats m 0 c).arrAt 9 cfg0.N = scaleArr (entries (m ((c : Thread nD τ).loc main_arg2))) := by
  refine (dats m 0 c).arrAt_eq_of_covers 9 _ (by decide +kernel) fun t hf y => ?_
  obtain ⟨e0, e1, e2⟩ := index9 t
  have hl : t.val % 8 = 7 := (by decide +kernel : ∀ t : Fin grid0.N, (cfg0.win 9).flush t = true → t.val % 8 = 7) t hf
  blk_simp
  rw [after0_9]
  have ht := lt64 t
  obtain ⟨y0, y1, y2, rfl⟩ : ∃ (a : Fin 1) (n h : Fin 16), y = (ix3 a n h : S1x16x16.Idx) := ⟨y 0, y 1, y 2, eq_ix3 y⟩
  obtain rfl : y0 = 0 := Subsingleton.elim _ _
  refine (scales_v m c t.val t.isLt ht y1 y2 (by have := y2.isLt; omega)).trans ?_
  rw [headExpo_of _ _ (block_v m c) t.val t.isLt ht]
  refine (scaleArr_at _ _ _ _ _ ?_ ?_ ?_).symm
  · blk_simp [e0]
    rfl
  · blk_simp [e1]
  · blk_simp [e2]

end Cert.Quant
-- ==== Proof.Trip.lean ====
/- One trip of the kernel's loop, from what it reads. -/
module

public import proofs.«01_k».proof.Proof.Tiles

@[expose] public section

set_option maxRecDepth 16384

noncomputable section

namespace Cert.Quant

open Idealize.ShloMosaic Idealize.ShloMosaic.TcCoe
open Cert.KernelIdeal Cert.KernelIdeal.Gen

/-- What a trip stores, from the products `c` of the scales, the maxima `m`, the negated exponents `e`, the weights `w`, the
    rows `S j` of scores and the tiles `V h j` of codes. -/
def tripY (c : FVec Ideal S16x256 .f32) (m : FVec Ideal S1x256 .f32) (e : IVec S16x256 32) (w : FVec Ideal S16x256 .f32)
    (S : Fin 16 → Vec Ideal S128x256 .f32) (V : Fin 2 → Fin 16 → Vec Ideal S1x64x128 .fp8e4m3) : FVec Ideal S1x128x128 .bf16 :=
  let t9 := k0_pay17 c m (S 0)
  let t10 := k0_pay18 c m (S 0)
  let t11 := k0_pay19 e k0_pay12
  let t12 := k0_pay21 w k0_pay15 t9 t11 (V 0 0)
  let t13 := k0_pay22 w k0_pay16 t9 t11 (V 1 0)
  let t14 := k0_pay24 c m t10 (S 1)
  let t15 := k0_pay25 c m (k0_pay13 e k0_pay12) (S 1)
  let t16 := V 0 1
  let t17 := k0_pay26 w t13 t15 (V 1 1)
  let t18 := k0_pay28 c m t14 (S 2)
  let t19 := k0_pay29 c m (k0_pay13 e k0_pay12) (S 2)
  let t20 := k0_pay30 c m (k0_pay13 e k0_pay12) w t12 t15 t16 (S 2) (V 0 2)
  let t21 := k0_pay31 (V 1 2)
  let t22 := k0_pay33 c m t18 (S 3)
  let t23 := k0_pay35 c m (k0_pay13 e k0_pay12) w t20 (S 3) (V 0 3)
  let t24 := k0_pay36 c m (k0_pay13 e k0_pay12) w t17 t19 t21 (S 3) (V 1 3)
  let t25 := k0_pay37 c (S 4)
  let t26 := k0_pay40 m (k0_pay13 e k0_pay12) w t23 t25 (V 0 4)
  let t27 := k0_pay41 m (k0_pay13 e k0_pay12) w t24 t25 (V 1 4)
  let t28 := k0_pay43 c m t22 t25 (S 5)
  let t29 := k0_pay44 c m (k0_pay13 e k0_pay12) (S 5)
  let t30 := k0_pay47 w t26 t29 (FloatOps.ofBits FTy.f32 1138753536#32) k0_pay45 (V 0 5)
  let t31 := k0_pay48 w t27 t29 (FloatOps.ofBits FTy.f32 1138753536#32) k0_pay45 (V 1 5)
  let t32 := k0_pay50 c m t28 (S 6)
  let t33 := k0_pay51 c m (k0_pay13 e k0_pay12) (S 6)
  let t34 := k0_pay52 c m (k0_pay13 e k0_pay12) (S 6) (V 0 6)
  let t35 := k0_pay53 w
  let t36 := k0_pay54 w t31 t33 (V 1 6)
  let t37 := k0_pay56 c m t32 (S 7)
  let t38 := k0_pay58 c m (k0_pay13 e k0_pay12) w t30 t34 t35 (S 7) (V 0 7)
  let t39 := k0_pay59 c m (k0_pay13 e k0_pay12) (S 7) (V 1 7)
  let t40 := k0_pay60 w
  let t41 := k0_pay62 c m t37 (S 8)
  let t42 := k0_pay64 c m (k0_pay13 e k0_pay12) w t38 (S 8) (V 0 8)
  let t43 := k0_pay65 c m (k0_pay13 e k0_pay12) w t36 t39 t40 (S 8) (V 1 8)
  let t44 := k0_pay66 c m (S 9)
  let t45 := k0_pay67 c m (S 9)
  let t46 := k0_pay69 (k0_pay13 e k0_pay12) w t42 t44 (V 0 9)
  let t47 := k0_pay70 (k0_pay13 e k0_pay12) w t43 t44 (V 1 9)
  let t48 := k0_pay72 c m t41 t45 (S 10)
  let t49 := k0_pay73 c m (k0_pay13 e k0_pay12) (S 10)
  let t50 := k0_pay74 w t47 t49 (V 1 10)
  let t51 := k0_pay76 c m t48 (S 11)
  let t52 := k0_pay77 c m (k0_pay13 e k0_pay12) (S 11)
  let t53 := k0_pay78 c m (k0_pay13 e k0_pay12) w t46 t49 (V 0 10) (S 11) (V 0 11)
  let t54 := k0_pay80 c m t51 (S 12)
  let t55 := k0_pay82 c m (k0_pay13 e k0_pay12) w t53 (S 12) (V 0 12)
  let t56 := k0_pay83 c m (k0_pay13 e k0_pay12) w t50 t52 (V 1 11) (S 12) (V 1 12)
  let t57 := k0_pay86 c m (k0_pay13 e k0_pay12) w t55 (S 13) (V 0 13)
  let t58 := k0_pay87 c m (k0_pay13 e k0_pay12) w t56 (S 13) (V 1 13)
  let t59 := k0_pay89 c m t54 (S 13) (S 14)
  let t60 := k0_pay90 c m (k0_pay13 e k0_pay12) (S 14)
  let t61 := k0_pay92 w t57 t60 (V 0 14)
  let t62 := k0_pay93 w t58 t60 (V 1 14)
  let t63 := k0_pay95 c m t59 (S 15)
  let t64 := k0_pay96 c m (k0_pay13 e k0_pay12) (S 15)
  let t65 := k0_pay97 (V 0 15)
  let t66 := k0_pay98 c m (k0_pay13 e k0_pay12) (S 15)
  k0_pay1 w t61 t62 t63 t64 t65 t66 (V 1 15)

/-! ### The same trip, tile by tile -/

/-- A row of sixteen. -/
def rowAt (a : FVec Ideal S16x256 .f32) (j : Fin 16) : FVec Ideal S1x256 .f32 :=
  extractStridedSlice S1x256 ![j.val, 0] a (by revert j; decide)

/-- The first half of a row. -/
def rowAt0 (a : FVec Ideal S16x256 .f32) (j : Fin 16) : FVec Ideal S1x128 .f32 :=
  extractStridedSlice S1x128 ![j.val, 0] a (by revert j; decide)

/-- The second half of a row. -/
def rowAt1 (a : FVec Ideal S16x256 .f32) (j : Fin 16) : FVec Ideal S1x128 .f32 :=
  extractStridedSlice S1x128 ![j.val, 128] a (by revert j; decide)

/-- The exponentials of a tile. -/
def expTile (r m : FVec Ideal S1x256 .f32) (s : Vec Ideal S128x256 .f32) : FVec Ideal S128x256 .f32 :=
  exp (subf (mulf s (broadcastTo S128x256 r broadcasts_S1x256_S128x256)) (broadcastTo S128x256 m broadcasts_S1x256_S128x256))

/-- The sum of a tile's exponentials added to a sum. -/
def sumStep (l : FVec Ideal S1x256 .f32) (p : FVec Ideal S128x256 .f32) : FVec Ideal S1x256 .f32 :=
  addf l (shapeCast S1x256 (multiReduction .add [0] S256 p 0x00000000#32 reduces_S128x256_S256 (.inl rfl) rfl) shapeCasts_S256_S1x256)

/-- The codes of a tile of exponentials. -/
def probTile (r : FVec Ideal S1x256 .f32) (p : FVec Ideal S128x256 .f32) : FVec Ideal S128x256 .fp8e4m3 :=
  truncf .fp8e4m3 (minimumf (broadcast S128x256 (Scalar.ofBits .f32 0x43E00000#32)) (maximumf (broadcast S128x256 (Scalar.ofBits .f32 0xC3E00000#32))
    (mulf p (broadcastTo S128x256 r broadcasts_S1x256_S128x256)))) bitsLt_fp8e4m3_f32

/-- A weighted product of codes added to a sum. -/
def accStep (r : FVec Ideal S1x128 .f32) (a : FVec Ideal S64x128 .f32) (p : FVec Ideal S128x128 .fp8e4m3) (v : Vec Ideal S1x64x128 .fp8e4m3) : FVec Ideal S64x128 .f32 :=
  addf a (mulf (matmul (φ₁ := .fp8e4m3) dot_S64x128_S128x128_S64x128_1_0_0_1_n_n none (shapeCast S64x128 v shapeCasts_S1x64x128_S64x128) p (constant S64x128 .f32 0x00000000#32))
    (broadcastTo S64x128 r broadcasts_S1x128_S64x128))

/-- The first half of a tile of codes. -/
def half0 (p : FVec Ideal S128x256 .fp8e4m3) : FVec Ideal S128x128 .fp8e4m3 := extractStridedSlice S128x128 ![0, 0] p slices_S128x256_o0_0_S128x128

/-- The second half of a tile of codes. -/
def half1 (p : FVec Ideal S128x256 .fp8e4m3) : FVec Ideal S128x128 .fp8e4m3 := extractStridedSlice S128x128 ![0, 128] p slices_S128x256_o0_128_S128x128

section Steps

variable (c : FVec Ideal S16x256 .f32) (m : FVec Ideal S1x256 .f32) (P : FVec Ideal S16x256 .f32) (w : FVec Ideal S16x256 .f32)
    (S : Fin 16 → Vec Ideal S128x256 .f32) (V : Fin 2 → Fin 16 → Vec Ideal S1x64x128 .fp8e4m3)

/-- The exponentials of the tile `j`. -/
def expOf (j : Fin 16) : FVec Ideal S128x256 .f32 := expTile (rowAt c j) m (S j)

/-- The sums over the first tiles. -/
def sumTo : ℕ → FVec Ideal S1x256 .f32
  | 0 => broadcast S1x256 (Scalar.ofBits .f32 0x00000000#32)
  | n + 1 => sumStep (sumTo n) (expOf c m S (Fin.ofNat 16 n))

/-- The first head's products over the first tiles. -/
def accTo0 : ℕ → FVec Ideal S64x128 .f32
  | 0 => broadcast S64x128 (Scalar.ofBits .f32 0x00000000#32)
  | n + 1 => accStep (rowAt0 w (Fin.ofNat 16 n)) (accTo0 n) (half0 (probTile (rowAt P (Fin.ofNat 16 n)) (expOf c m S (Fin.ofNat 16 n)))) (V 0 (Fin.ofNat 16 n))

/-- The second head's products over the first tiles. -/
def accTo1 : ℕ → FVec Ideal S64x128 .f32
  | 0 => broadcast S64x128 (Scalar.ofBits .f32 0x00000000#32)
  | n + 1 => accStep (rowAt1 w (Fin.ofNat 16 n)) (accTo1 n) (half1 (probTile (rowAt P (Fin.ofNat 16 n)) (expOf c m S (Fin.ofNat 16 n)))) (V 1 (Fin.ofNat 16 n))

end Steps

/-- What is stored, from the two heads' products and the sums. -/
def outTile (a0 a1 : FVec Ideal S64x128 .f32) (l : FVec Ideal S1x256 .f32) : FVec Ideal S1x128x128 .bf16 :=
  shapeCast S1x128x128 (truncf .bf16 (transpose S128x128 [1, 0] (concatenate S128x128 0
    [⟨S64x128, divf a0 (broadcastTo S64x128 (extractStridedSlice S1x128 ![0, 0] l slices_S1x256_o0_0_S1x128) broadcasts_S1x128_S64x128)⟩,
     ⟨S64x128, divf a1 (broadcastTo S64x128 (extractStridedSlice S1x128 ![0, 128] l slices_S1x256_o0_128_S1x128) broadcasts_S1x128_S64x128)⟩]
    concatenates_S64x128_S64x128_S128x128_d0) transposes_S128x128_p1_0_S128x128) bitsLt_bf16_f32) shapeCasts_S128x128_S1x128x128

theorem tripY_eq (c : FVec Ideal S16x256 .f32) (m : FVec Ideal S1x256 .f32) (e : IVec S16x256 32) (w : FVec Ideal S16x256 .f32)
    (S : Fin 16 → Vec Ideal S128x256 .f32) (V : Fin 2 → Fin 16 → Vec Ideal S1x64x128 .fp8e4m3) :
    tripY c m e w S V = outTile (accTo0 c m (k0_pay13 e k0_pay12) w S V 16) (accTo1 c m (k0_pay13 e k0_pay12) w S V 16) (sumTo c m S 16) := rfl

/-! ### Their entries -/

theorem rowAt_at (a : FVec Ideal S16x256 .f32) (j : Fin 16) (x : Fin 256) : rowAt a j (ix2 0 x) = a (ix2 j x) := by
  unfold rowAt extractStridedSlice
  congr 1
  ext k
  fin_cases k <;> simp [ix2]

theorem rowAt0_at (a : FVec Ideal S16x256 .f32) (j : Fin 16) (x : Fin 128) : rowAt0 a j (ix2 0 x) = a (ix2 j ⟨x.val, by omega⟩) := by
  unfold rowAt0 extractStridedSlice
  congr 1
  ext k
  fin_cases k <;> simp [ix2]

theorem rowAt1_at (a : FVec Ideal S16x256 .f32) (j : Fin 16) (x : Fin 128) : rowAt1 a j (ix2 0 x) = a (ix2 j ⟨128 + x.val, by omega⟩) := by
  unfold rowAt1 extractStridedSlice
  congr 1
  ext k
  fin_cases k <;> simp [ix2]

theorem expTile_at (r m : FVec Ideal S1x256 .f32) (s : Vec Ideal S128x256 .f32) (t : Fin 128) (x : Fin 256) :
    expTile r m s (ix2 t x) = Ideal.exp (s (ix2 t x) * r (ix2 0 x) - m (ix2 0 x)) := by
  pointwise [expTile]

theorem sumStep_at (l : FVec Ideal S1x256 .f32) (p : FVec Ideal S128x256 .f32) (x : Fin 256) :
    sumStep l p (ix2 0 x) = l (ix2 0 x) + ∑ t : Fin 128, p (ix2 t x) := by
  pointwise [sumStep]

theorem probTile_at (r : FVec Ideal S1x256 .f32) (p : FVec Ideal S128x256 .f32) (t : Fin 128) (x : Fin 256) :
    probTile r p (ix2 t x) = clip (p (ix2 t x) * r (ix2 0 x)) := by
  pointwise [probTile]
  rfl

theorem accStep_at (r : FVec Ideal S1x128 .f32) (a : FVec Ideal S64x128 .f32) (p : FVec Ideal S128x128 .fp8e4m3) (v : Vec Ideal S1x64x128 .fp8e4m3) (d : Fin 64) (q : Fin 128) :
    accStep r a p v (ix2 d q) = a (ix2 d q) + (∑ t : Fin 128, v (ix3 0 d t) * p (ix2 t q)) * r (ix2 0 q) := by
  pointwise [accStep]

theorem half0_at (p : FVec Ideal S128x256 .fp8e4m3) (t q : Fin 128) : half0 p (ix2 t q) = p (ix2 t ⟨q.val, by omega⟩) := by
  pointwise [half0]

theorem half1_at (p : FVec Ideal S128x256 .fp8e4m3) (t q : Fin 128) : half1 p (ix2 t q) = p (ix2 t ⟨128 + q.val, by omega⟩) := by
  pointwise [half1]

theorem outTile_at0 (a0 a1 : FVec Ideal S64x128 .f32) (l : FVec Ideal S1x256 .f32) (q : Fin 128) (d : Fin 64) :
    outTile a0 a1 l (ix3 0 q ⟨d.val, by omega⟩) = Ideal.div (a0 (ix2 d q)) (l (ix2 0 ⟨q.val, by omega⟩)) := by
  pointwise [outTile]

theorem outTile_at1 (a0 a1 : FVec Ideal S64x128 .f32) (l : FVec Ideal S1x256 .f32) (q : Fin 128) (d : Fin 64) :
    outTile a0 a1 l (ix3 0 q ⟨64 + d.val, by omega⟩) = Ideal.div (a1 (ix2 d q)) (l (ix2 0 ⟨128 + q.val, by omega⟩)) := by
  pointwise [outTile]

end Cert.Quant
-- ==== Proof.Attn.lean ====
/- Attention of one head over codes and scales, and the kernel's way to the maxima. -/
module

public import proofs.«01_k».proof.Proof.Spec

@[expose] public section

set_option maxRecDepth 16384

noncomputable section

namespace Cert.Quant

open Idealize.ShloMosaic Idealize.ShloMosaic.TcCoe

/-- The constant that scales the scores. -/
def smScale : EReal := Ideal.ofBits .f32 0x3E000000#32

/-- The codes of one head: run, token, lane. -/
abbrev Codes : Type := Fin 16 → Fin 128 → Fin 64 → EReal

section Defs

variable (Q K V : Codes) (qs ks vs : Fin 16 → EReal)

/-- The product of codes of a query and of a key. -/
def dotOf (n : Fin 16) (q : Fin 128) (j : Fin 16) (t : Fin 128) : EReal := ∑ d : Fin 64, Q n q d * K j t d

/-- The scale of the scores of a run of queries and a run of keys. -/
def pairScale (n j : Fin 16) : EReal := qs n * ks j * smScale

/-- A score. -/
def score (n : Fin 16) (q : Fin 128) (j : Fin 16) (t : Fin 128) : EReal := dotOf Q K n q j t * pairScale qs ks n j

/-- The greatest score of a query. -/
def rowMax (n : Fin 16) (q : Fin 128) : EReal :=
  Finset.univ.sup fun j : Fin 16 => Finset.univ.sup fun t : Fin 128 => score Q K qs ks n q j t

/-- The exponential of a score less the greatest. -/
def prob (n : Fin 16) (q : Fin 128) (j : Fin 16) (t : Fin 128) : EReal := Ideal.exp (score Q K qs ks n q j t - rowMax Q K qs ks n q)

/-- The sum of a query's exponentials. -/
def denom (n : Fin 16) (q : Fin 128) : EReal := ∑ j : Fin 16, ∑ t : Fin 128, prob Q K qs ks n q j t

/-- The maximum magnitude of the exponentials of a run of queries and a run of keys. -/
def probMax (n j : Fin 16) : EReal :=
  Finset.univ.sup fun q : Fin 128 => Finset.univ.sup fun t : Fin 128 => mag (prob Q K qs ks n q j t)

/-- Their exponent. -/
def probExpo (n j : Fin 16) : ℤ := expo (probMax Q K qs ks n j * recip448)

/-- Their codes. -/
def probCode (n : Fin 16) (q : Fin 128) (j : Fin 16) (t : Fin 128) : EReal := clip (prob Q K qs ks n q j t * pw (-probExpo Q K qs ks n j))

/-- The attention's result. -/
def attn (n : Fin 16) (q : Fin 128) (d : Fin 64) : EReal :=
  Ideal.div (∑ j : Fin 16, (∑ t : Fin 128, probCode Q K qs ks n q j t * V j t d) * (pw (probExpo Q K qs ks n j) * vs j)) (denom Q K qs ks n q)

/-! ### The maxima, taken before the scales are applied -/

/-- The greatest product of a query with the keys of a run, scaled. -/
def blockTop (n : Fin 16) (q : Fin 128) (j : Fin 16) : EReal :=
  (Finset.univ.sup fun t : Fin 128 => dotOf Q K n q j t) * pairScale qs ks n j

end Defs

/-- A nonempty finite family takes its maximum, so a monotone function passes through it. -/
theorem map_sup (f : EReal → EReal) (hf : Monotone f) (g : Fin 128 → EReal) :
    f (Finset.univ.sup g) = Finset.univ.sup fun t => f (g t) := by
  have h := Finset.exists_mem_eq_sup (Finset.univ : Finset (Fin 128)) ⟨0, Finset.mem_univ _⟩ g
  obtain ⟨t, _, ht⟩ := h
  apply le_antisymm
  · rw [ht]
    exact (Finset.le_sup (f := fun t => f (g t)) (Finset.mem_univ t) : f (g t) ≤ _)
  · exact Finset.sup_le fun s _ => hf (Finset.le_sup (f := g) (Finset.mem_univ s))

/-- The exponential is monotone. -/
theorem exp_monotone : Monotone Ideal.exp := by
  intro a b h
  induction a with
  | bot =>
    induction b with
    | bot => exact le_rfl
    | top => exact le_top
    | coe b => exact EReal.coe_nonneg.mpr (Real.exp_pos b).le
  | top => rw [top_le_iff.mp h]
  | coe a =>
    induction b with
    | bot => exact absurd h (by simp)
    | top => exact le_top
    | coe b =>
      simp only [Ideal.exp_coe, EReal.coe_le_coe_iff] at h ⊢
      exact Real.exp_le_exp.mpr h

/-- The exponential is not negative. -/
theorem exp_nonneg (a : EReal) : 0 ≤ Ideal.exp a := by
  rw [← Ideal.exp_bot]; exact exp_monotone bot_le

/-- The magnitude of a nonnegative number. -/
theorem mag_of_nonneg {x : EReal} (h : 0 ≤ x) : mag x = x :=
  max_eq_left ((EReal.neg_le_zero.mpr h).trans h)

theorem smScale_nonneg : 0 ≤ smScale := by
  rw [smScale]
  simp [Ideal.ofBits, Ideal.ieee, -EReal.coe_mul]

section Maxima

variable (Q K V : Codes) (qs ks vs : Fin 16 → EReal) (hq : ∀ n, 0 ≤ qs n) (hk : ∀ j, 0 ≤ ks j)

include hq hk in
theorem pairScale_nonneg (n j : Fin 16) : 0 ≤ pairScale qs ks n j :=
  mul_nonneg (mul_nonneg (hq n) (hk j)) smScale_nonneg

include hq hk in
/-- A run's greatest score is the greatest product, scaled. -/
theorem blockTop_eq (n : Fin 16) (q : Fin 128) (j : Fin 16) :
    blockTop Q K qs ks n q j = Finset.univ.sup fun t : Fin 128 => score Q K qs ks n q j t :=
  map_sup (fun x => x * pairScale qs ks n j) (fun _ _ h => mul_le_mul_of_nonneg_right h (pairScale_nonneg qs ks hq hk n j)) _

include hq hk in
theorem rowMax_eq (n : Fin 16) (q : Fin 128) : (Finset.univ.sup fun j : Fin 16 => blockTop Q K qs ks n q j) = rowMax Q K qs ks n q := by
  unfold rowMax
  congr 1
  funext j
  exact blockTop_eq Q K qs ks hq hk n q j

include hq hk in
/-- The maximum magnitude of the exponentials, from the greatest scores. -/
theorem probMax_eq (n j : Fin 16) :
    (Finset.univ.sup fun q : Fin 128 => Ideal.exp (blockTop Q K qs ks n q j - rowMax Q K qs ks n q)) = probMax Q K qs ks n j := by
  unfold probMax
  congr 1
  funext q
  rw [blockTop_eq Q K qs ks hq hk, map_sup (fun x => Ideal.exp (x - rowMax Q K qs ks n q)) (fun _ _ h => exp_monotone (EReal.sub_le_sub h le_rfl))]
  congr 1
  funext t
  exact (mag_of_nonneg (exp_nonneg _)).symm

end Maxima

/-! ### The array of results -/

/-- The codes of one head of an input. -/
def headOf (X : Entries) (b : Fin 8) (h : Fin 16) : Codes := fun n s d => codeOf X b n h s d

/-- The scales of one head of an input. -/
def scalesOf (X : Entries) (b : Fin 8) (h : Fin 16) : Fin 16 → EReal := fun n => pw (expoOf X b n h)

theorem scalesOf_nonneg (X : Entries) (b : Fin 8) (h n : Fin 16) : 0 ≤ scalesOf X b h n := by
  unfold scalesOf pw
  exact EReal.coe_nonneg.mpr (by positivity)

/-- The attention of the three inputs: batch, token, column. -/
def attnArr (X Y Z : Entries) (i : (⟨3, ![8, 2048, 1024]⟩ : Shape).Idx) : EReal :=
  attn (headOf X (i 0) ⟨(i 2).val / 64, by have : (i 2).val < 1024 := (i 2).isLt; omega⟩)
    (headOf Y (i 0) ⟨(i 2).val / 64, by have : (i 2).val < 1024 := (i 2).isLt; omega⟩)
    (headOf Z (i 0) ⟨(i 2).val / 64, by have : (i 2).val < 1024 := (i 2).isLt; omega⟩)
    (scalesOf X (i 0) ⟨(i 2).val / 64, by have : (i 2).val < 1024 := (i 2).isLt; omega⟩)
    (scalesOf Y (i 0) ⟨(i 2).val / 64, by have : (i 2).val < 1024 := (i 2).isLt; omega⟩)
    (scalesOf Z (i 0) ⟨(i 2).val / 64, by have : (i 2).val < 1024 := (i 2).isLt; omega⟩)
    ⟨(i 1).val / 128, by have : (i 1).val < 2048 := (i 1).isLt; omega⟩ ⟨(i 1).val % 128, by omega⟩ ⟨(i 2).val % 64, by omega⟩

/-- An entry of the attention, from its coordinates. -/
theorem attnArr_at (X Y Z : Entries) (i : (⟨3, ![8, 2048, 1024]⟩ : Shape).Idx) (b : Fin 8) (n h : Fin 16) (q : Fin 128) (d : Fin 64)
    (h0 : (i 0).val = b.val) (h1 : (i 1).val = n.val * 128 + q.val) (h2 : (i 2).val = h.val * 64 + d.val) :
    attnArr X Y Z i = attn (headOf X b h) (headOf Y b h) (headOf Z b h) (scalesOf X b h) (scalesOf Y b h) (scalesOf Z b h) n q d := by
  unfold attnArr
  have e0 : i 0 = b := Fin.ext h0
  have eh : (⟨(i 2).val / 64, by have : (i 2).val < 1024 := (i 2).isLt; omega⟩ : Fin 16) = h := Fin.ext (by simp only []; omega)
  rw [e0, eh]
  congr 1 <;> ext <;> simp only [] <;> omega

end Cert.Quant
-- ==== Proof.TripValue.lean ====
/- What one trip of the kernel's loop stores: the attention of one run of queries of two heads. -/
module

public import proofs.«01_k».proof.Proof.Trip
public import proofs.«01_k».proof.Proof.Attn

@[expose] public section

set_option maxRecDepth 16384

noncomputable section

namespace Cert.Quant

open Idealize.ShloMosaic Idealize.ShloMosaic.TcCoe
open Cert.KernelIdeal Cert.KernelIdeal.Gen

/-- The column of the query `q` of the head `g` of the two. -/
abbrev lane (g : Fin 2) (q : Fin 128) : Fin 256 := ⟨g.val * 128 + q.val, by omega⟩

/-- The row of the key `t` of the run `j`. -/
abbrev key (j : Fin 16) (t : Fin 128) : Fin 2048 := ⟨j.val * 128 + t.val, by omega⟩

/-! ### The sums over the tiles -/

section Sums

variable (c : FVec Ideal S16x256 .f32) (m : FVec Ideal S1x256 .f32) (P : FVec Ideal S16x256 .f32) (w : FVec Ideal S16x256 .f32)
    (S : Fin 16 → Vec Ideal S128x256 .f32) (V : Fin 2 → Fin 16 → Vec Ideal S1x64x128 .fp8e4m3)

theorem expOf_at (j : Fin 16) (t : Fin 128) (x : Fin 256) :
    expOf c m S j (ix2 t x) = Ideal.exp (S j (ix2 t x) * c (ix2 j x) - m (ix2 0 x)) := by
  rw [expOf, expTile_at, rowAt_at]

theorem sumTo_at (n : ℕ) (x : Fin 256) :
    sumTo c m S n (ix2 0 x) = ∑ j ∈ Finset.range n, ∑ t : Fin 128, expOf c m S (Fin.ofNat 16 j) (ix2 t x) := by
  induction n with
  | zero => rw [Finset.sum_range_zero]; exact Ideal.ofBits_zero_f32
  | succ n ih => rw [sumTo, sumStep_at, ih, Finset.sum_range_succ]

theorem accTo0_at (n : ℕ) (d : Fin 64) (q : Fin 128) :
    accTo0 c m P w S V n (ix2 d q) = ∑ j ∈ Finset.range n, (∑ t : Fin 128, V 0 (Fin.ofNat 16 j) (ix3 0 d t)
      * clip (expOf c m S (Fin.ofNat 16 j) (ix2 t (lane 0 q)) * P (ix2 (Fin.ofNat 16 j) (lane 0 q)))) * w (ix2 (Fin.ofNat 16 j) (lane 0 q)) := by
  have e : ∀ p, (⟨q.val, p⟩ : Fin 256) = lane 0 q := fun p => Fin.ext (by simp)
  induction n with
  | zero => rw [Finset.sum_range_zero]; exact Ideal.ofBits_zero_f32
  | succ n ih =>
    rw [accTo0, accStep_at, ih, Finset.sum_range_succ]
    simp only [half0_at, probTile_at, rowAt_at, rowAt0_at, e]

theorem accTo1_at (n : ℕ) (d : Fin 64) (q : Fin 128) :
    accTo1 c m P w S V n (ix2 d q) = ∑ j ∈ Finset.range n, (∑ t : Fin 128, V 1 (Fin.ofNat 16 j) (ix3 0 d t)
      * clip (expOf c m S (Fin.ofNat 16 j) (ix2 t (lane 1 q)) * P (ix2 (Fin.ofNat 16 j) (lane 1 q)))) * w (ix2 (Fin.ofNat 16 j) (lane 1 q)) := by
  have e : ∀ p, (⟨128 + q.val, p⟩ : Fin 256) = lane 1 q := fun p => Fin.ext (by simp)
  induction n with
  | zero => rw [Finset.sum_range_zero]; exact Ideal.ofBits_zero_f32
  | succ n ih =>
    rw [accTo1, accStep_at, ih, Finset.sum_range_succ]
    simp only [half1_at, probTile_at, rowAt_at, rowAt1_at, e]

/-- A sum over the first sixteen numbers. -/
theorem sum_sixteen (f : Fin 16 → EReal) : ∑ j ∈ Finset.range 16, f (Fin.ofNat 16 j) = ∑ j : Fin 16, f j := by
  rw [← Fin.sum_univ_eq_sum_range (fun j => f (Fin.ofNat 16 j)) 16]
  refine Finset.sum_congr rfl fun j _ => ?_
  congr 1
  exact Fin.ext (Nat.mod_eq_of_lt j.isLt)

/-- An entry of what a trip stores. -/
theorem tripY_at (e : IVec S16x256 32) (g : Fin 2) (q : Fin 128) (d : Fin 64) :
    tripY c m e w S V (ix3 0 q ⟨g.val * 64 + d.val, by omega⟩)
      = Ideal.div (∑ j : Fin 16, (∑ t : Fin 128, V g j (ix3 0 d t) * clip (expOf c m S j (ix2 t (lane g q)) * ldexpV e (ix2 j (lane g q)))) * w (ix2 j (lane g q)))
          (∑ j : Fin 16, ∑ t : Fin 128, expOf c m S j (ix2 t (lane g q))) := by
  have hP : k0_pay13 (F := Ideal) e k0_pay12 = ldexpV e := rfl
  rw [tripY_eq, hP]
  fin_cases g
  · have e1 : ∀ p, (⟨0 * 64 + d.val, p⟩ : Fin 128) = ⟨d.val, by omega⟩ := fun p => Fin.ext (by simp)
    have e2 : ∀ p, (⟨q.val, p⟩ : Fin 256) = lane 0 q := fun p => Fin.ext (by simp)
    show outTile _ _ _ (ix3 0 q ⟨0 * 64 + d.val, _⟩) = _
    rw [e1, outTile_at0, e2, sumTo_at, accTo0_at, sum_sixteen (fun j => ∑ t : Fin 128, expOf c m S j (ix2 t (lane 0 q))),
      sum_sixteen (fun j => (∑ t : Fin 128, V 0 j (ix3 0 d t) * clip (expOf c m S j (ix2 t (lane 0 q)) * ldexpV e (ix2 j (lane 0 q)))) * w (ix2 j (lane 0 q)))]
    rfl
  · have e1 : ∀ p, (⟨1 * 64 + d.val, p⟩ : Fin 128) = ⟨64 + d.val, by omega⟩ := fun p => Fin.ext (by simp)
    have e2 : ∀ p, (⟨128 + q.val, p⟩ : Fin 256) = lane 1 q := fun p => Fin.ext (by simp)
    show outTile _ _ _ (ix3 0 q ⟨1 * 64 + d.val, _⟩) = _
    rw [e1, outTile_at1, e2, sumTo_at, accTo1_at, sum_sixteen (fun j => ∑ t : Fin 128, expOf c m S j (ix2 t (lane 1 q))),
      sum_sixteen (fun j => (∑ t : Fin 128, V 1 j (ix3 0 d t) * clip (expOf c m S j (ix2 t (lane 1 q)) * ldexpV e (ix2 j (lane 1 q)))) * w (ix2 j (lane 1 q)))]
    rfl

end Sums

/-! ### The maxima -/

section Maxima

variable (xs : Vec Ideal S1x256 .f32) (ks : Vec Ideal S16x256 .f32) (s : Vec Ideal S2048x256 .f32)

theorem pay3_at (j : Fin 16) (x : Fin 256) : k0_pay3 xs ks (ix2 j x) = xs (ix2 0 x) * ks (ix2 j x) * smScale := by
  pointwise [k0_pay3]
  rfl

theorem pay4_at (j : Fin 16) (x : Fin 256) :
    k0_pay4 xs ks s (ix2 j x) = (Finset.univ.sup fun t : Fin 128 => s (ix2 (key j t) x)) * k0_pay3 xs ks (ix2 j x) := by
  pointwise [k0_pay4]
  rw [negInf]
  rfl

theorem pay5_at (x : Fin 256) : k0_pay5 xs ks s (ix2 0 x) = Finset.univ.sup fun j : Fin 16 => k0_pay4 xs ks s (ix2 j x) := by
  pointwise [k0_pay5]
  rw [negInf]
  rfl

theorem pay6_at (j : Fin 16) (g : Fin 2) (q : Fin 128) :
    k0_pay6 xs ks s (ix2 j (lane g q)) = Finset.univ.sup fun q' : Fin 128 => Ideal.exp (k0_pay4 xs ks s (ix2 j (lane g q')) - k0_pay5 xs ks s (ix2 0 (lane g q'))) := by
  pointwise [k0_pay6]
  rw [negInf]
  fin_cases g
  · rw [dif_pos (by show 0 * 128 + q.val < 128; omega)]
    have e : ∀ (x : Fin 128) p, (⟨x.val, p⟩ : Fin 256) = lane 0 x := fun x p => Fin.ext (by simp)
    simp only [e]
    rfl
  · rw [dif_neg (by show ¬ 1 * 128 + q.val < 128; omega)]
    have e : ∀ (x : Fin 128) p, (⟨128 + x.val, p⟩ : Fin 256) = lane 1 x := fun x p => Fin.ext (by simp)
    simp only [e]
    rfl

/-- The exponents of the exponentials. -/
theorem pay10_eq : k0_pay10 (k0_pay6 xs ks s) (k0_pay7 xs ks s) (k0_pay9 (k0_pay7 xs ks s) k0_pay8) = expoV (k0_pay6 xs ks s) (k0_pay7 xs ks s) := rfl

theorem pay11_eq : k0_pay11 (k0_pay6 xs ks s) (k0_pay7 xs ks s) (k0_pay9 (k0_pay7 xs ks s) k0_pay8)
    = subi (broadcast S16x256 0#32) (expoV (k0_pay6 xs ks s) (k0_pay7 xs ks s)) := rfl

theorem pay7_zero (i : S16x256.Idx) (h : k0_pay6 xs ks s i = 0) : k0_pay7 xs ks s i = 0 := by
  show k0_pay6 xs ks s i * recip448 = 0
  rw [h, zero_mul]

theorem pay14_eq (e : IVec S16x256 32) (vs : Vec Ideal S16x256 .f32) (i : S16x256.Idx) : k0_pay14 e vs i = ldexpV e i * vs i := rfl

end Maxima

/-- What a trip stores, from what it reads: the scales of a run of queries, of the keys and of the values, the products of codes and
    the codes of the values. -/
def tripOf (xs : Vec Ideal S1x256 .f32) (ks vs : Vec Ideal S16x256 .f32) (s : Vec Ideal S2048x256 .f32) (S : Fin 16 → Vec Ideal S128x256 .f32)
    (V : Fin 2 → Fin 16 → Vec Ideal S1x64x128 .fp8e4m3) : FVec Ideal S1x128x128 .bf16 :=
  tripY (k0_pay3 xs ks) (k0_pay5 xs ks s) (k0_pay11 (k0_pay6 xs ks s) (k0_pay7 xs ks s) (k0_pay9 (k0_pay7 xs ks s) k0_pay8))
    (k0_pay14 (k0_pay10 (k0_pay6 xs ks s) (k0_pay7 xs ks s) (k0_pay9 (k0_pay7 xs ks s) k0_pay8)) vs) S V

section Attention

variable (Q K U : Codes) (qs ks us : Fin 16 → EReal) (hq : ∀ n, 0 ≤ qs n) (hk : ∀ j, 0 ≤ ks j) (n : Fin 16) (g : Fin 2)
  (ax : Vec Ideal S1x256 .f32) (ak av : Vec Ideal S16x256 .f32) (s : Vec Ideal S2048x256 .f32) (S : Fin 16 → Vec Ideal S128x256 .f32)
  (V : Fin 2 → Fin 16 → Vec Ideal S1x64x128 .fp8e4m3)
  (hx : ∀ q : Fin 128, ax (ix2 0 (lane g q)) = qs n) (hak : ∀ (j : Fin 16) (q : Fin 128), ak (ix2 j (lane g q)) = ks j)
  (hav : ∀ (j : Fin 16) (q : Fin 128), av (ix2 j (lane g q)) = us j)
  (hs : ∀ (j : Fin 16) (t q : Fin 128), s (ix2 (key j t) (lane g q)) = dotOf Q K n q j t)
  (hS : ∀ (j : Fin 16) (t q : Fin 128), S j (ix2 t (lane g q)) = dotOf Q K n q j t)
  (hV : ∀ (j : Fin 16) (d : Fin 64) (t : Fin 128), V g j (ix3 0 d t) = U j t d)

include hx hak in
theorem trip_scale (j : Fin 16) (q : Fin 128) : k0_pay3 ax ak (ix2 j (lane g q)) = pairScale qs ks n j := by
  rw [pay3_at, hx, hak]; rfl

include hx hak hs in
theorem trip_top (j : Fin 16) (q : Fin 128) : k0_pay4 ax ak s (ix2 j (lane g q)) = blockTop Q K qs ks n q j := by
  rw [pay4_at, trip_scale qs ks n g ax ak hx hak]
  simp only [hs]
  rfl

include hq hk hx hak hs in
theorem trip_max (q : Fin 128) : k0_pay5 ax ak s (ix2 0 (lane g q)) = rowMax Q K qs ks n q := by
  rw [pay5_at, ← rowMax_eq Q K qs ks hq hk]
  simp only [trip_top Q K qs ks n g ax ak s hx hak hs]

include hq hk hx hak hs in
theorem trip_probMax (j : Fin 16) (q : Fin 128) : k0_pay6 ax ak s (ix2 j (lane g q)) = probMax Q K qs ks n j := by
  rw [pay6_at, ← probMax_eq Q K qs ks hq hk]
  simp only [trip_top Q K qs ks n g ax ak s hx hak hs, trip_max Q K qs ks hq hk n g ax ak s hx hak hs]

include hq hk hx hak hs in
theorem trip_quot (j : Fin 16) (q : Fin 128) : k0_pay7 ax ak s (ix2 j (lane g q)) = probMax Q K qs ks n j * recip448 := by
  rw [← trip_probMax Q K qs ks hq hk n g ax ak s hx hak hs j q]
  rfl

include hq hk hx hak hav hs hS hV in
/-- The trip's values are the attention's. -/
theorem trip_attn (q : Fin 128) (d : Fin 64) :
    tripOf ax ak av s S V (ix3 0 q ⟨g.val * 64 + d.val, by omega⟩) = attn Q K U qs ks us n q d := by
  have hexp : ∀ (j : Fin 16) (t : Fin 128), expOf (k0_pay3 ax ak) (k0_pay5 ax ak s) S j (ix2 t (lane g q)) = prob Q K qs ks n q j t := fun j t => by
    rw [expOf_at, trip_scale qs ks n g ax ak hx hak, trip_max Q K qs ks hq hk n g ax ak s hx hak hs, hS]
    rfl
  unfold tripOf
  rw [tripY_at, pay10_eq, pay11_eq]
  unfold attn
  congr 1
  · refine Finset.sum_congr rfl fun j _ => ?_
    rw [pay14_eq, scaleV_eq _ _ _ (pay7_zero ax ak s _), invV_eq _ _ _ (pay7_zero ax ak s _), trip_quot Q K qs ks hq hk n g ax ak s hx hak hs, hav]
    congr 1
    refine Finset.sum_congr rfl fun t _ => ?_
    rw [hexp, hV, mul_comm]
    rfl
  · simp only [hexp]
    rfl

end Attention

end Cert.Quant
-- ==== Proof.LoopTrip.lean ====
/- What one trip of the kernel's loop stores, and where. -/
module

public import proofs.«01_k».proof.Proof.TripValue
public import proofs.«01_k».proof.Proof.Exact.Frame
public import Idealize.ShloMosaic.Lib.Pipeline.ValueKit
public import Idealize.ShloMosaic.Lib.Pipeline.ReadBack

@[expose] public section

set_option maxRecDepth 16384

noncomputable section

namespace Cert.Quant

open Idealize.ShloMosaic Idealize.ShloMosaic.TcCoe Idealize.SL Idealize.SL.Sem
open Cert.KernelIdeal Cert.KernelIdeal.Gen

/-- The run `j` of a trip's scores. -/
abbrev runRect (j : Fin 16) : Rect S2048x256 := Rect.unit ![j.val * 128, 0] S128x256.size (by revert j; decide)

/-- The tile of the head `g` and the run `j` of the third input's codes. -/
abbrev tileRect (g : Fin 2) (j : Fin 16) : Rect S1x128x2048 := Rect.unit ![0, g.val * 64, j.val * 128] S1x64x128.size (by revert g j; decide)

section

variable
    (𝒱 : Variants) (c : Dev nD) (bd : Option 𝒱.V) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x2048 .fp8e4m3) (harg6 : arg6.IsWhole)
    (arg7 : Memref sig .tc .vmem S1x16x16 .f32) (harg7 : arg7.IsWhole) (arg8 : Memref sig .tc .vmem S1x128x2048 .fp8e4m3) (harg8 : arg8.IsWhole)
    (arg9 : Memref sig .tc .vmem S1x16x16 .f32) (harg9 : arg9.IsWhole) (arg10 : Memref sig .tc .vmem S1x128x2048 .fp8e4m3) (harg10 : arg10.IsWhole)
    (arg11 : Memref sig .tc .vmem S1x16x16 .f32) (harg11 : arg11.IsWhole) (arg12 : Memref sig .tc .vmem S2048x128 .fp8e4m3) (harg12 : arg12.IsWhole)
    (arg13 : Memref sig .tc .vmem S128x4096 .fp8e4m3) (harg13 : arg13.IsWhole) (arg14 : Memref sig .tc .vmem S2048x256 .f32) (harg14 : arg14.IsWhole)
    (arg15 : Memref sig .tc .vmem S16x256 .f32) (harg15 : arg15.IsWhole) (arg16 : Memref sig .tc .vmem S16x256 .f32) (harg16 : arg16.IsWhole)
    (arg17 : Memref sig .tc .vmem S16x256 .f32) (harg17 : arg17.IsWhole) (c0_i32_788 : BitVec 32) (X_arg10 : BufTy.Contents (Elt Ideal) arg10.view.ty)
    (X_arg12 : BufTy.Contents (Elt Ideal) arg12.view.ty) (X_arg13 : BufTy.Contents (Elt Ideal) arg13.view.ty)
    (X_arg15 : BufTy.Contents (Elt Ideal) arg15.view.ty) (X_arg16 : BufTy.Contents (Elt Ideal) arg16.view.ty)
    (X_arg17 : BufTy.Contents (Elt Ideal) arg17.view.ty)

set_option maxHeartbeats 4000000 in
/-- A trip stores one piece: what it makes of the rows, the scores and the codes it reads. -/
theorem trip_piece (k : Fin k0_t1_loop.trips) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 k).1 =
      [⟨Rect.unit (s := S1x2048x128) (k0_off3 k) S1x128x128.size (k0_off3_inb k),
        tripOf (View.readAt (Elt Ideal) arg15.view (Rect.unit (s := S16x256) (k0_off2 k) S1x256.size (k0_off2_inb k)).toLoadRect X_arg15)
          (View.readAt (Elt Ideal) arg16.view (Rect.unit ![0, 0] S16x256.size inb_S16x256_S16x256_0_0).toLoadRect X_arg16)
          (View.readAt (Elt Ideal) arg17.view (Rect.unit ![0, 0] S16x256.size inb_S16x256_S16x256_0_0).toLoadRect X_arg17)
          (k0_pay2 (View.readAt (Elt Ideal) arg12.view (Rect.unit ![0, 0] S2048x128.size inb_S2048x128_S2048x128_0_0).toLoadRect X_arg12)
            (View.readAt (Elt Ideal) arg13.view (Rect.unit (s := S128x4096) (k0_off1 k) S128x256.size (k0_off1_inb k)).toLoadRect X_arg13))
          (fun j => View.ld (k0_pay2 (View.readAt (Elt Ideal) arg12.view (Rect.unit ![0, 0] S2048x128.size inb_S2048x128_S2048x128_0_0).toLoadRect X_arg12)
            (View.readAt (Elt Ideal) arg13.view (Rect.unit (s := S128x4096) (k0_off1 k) S128x256.size (k0_off1_inb k)).toLoadRect X_arg13)) (runRect j))
          (fun g j => View.readAt (Elt Ideal) arg10.view (tileRect g j).toLoadRect X_arg10)⟩] := by
  have hL : ∀ (Z : Vec Ideal S2048x256 .f32),
      arg14.view.readCov (Val := Elt Ideal) [⟨Rect.unit ![0, 0] S2048x256.size inb_S2048x256_S2048x256_0_0, Z⟩] (Rect.unit ![0, 0] S2048x256.size inb_S2048x256_S2048x256_0_0).toLoadRect = Z :=
    fun Z => View.readCov_cons_toLoadRect _ _ _ _
  have hR : ∀ (Z : Vec Ideal S2048x256 .f32) (j : Fin 16),
      arg14.view.readCov (Val := Elt Ideal) [⟨Rect.unit ![0, 0] S2048x256.size inb_S2048x256_S2048x256_0_0, Z⟩] (runRect j).toLoadRect = View.ld Z (runRect j) :=
    fun Z j => View.readCov_fill _ _ _ _ _ (by decide)
  refine Eq.trans (b := [⟨Rect.unit (s := S1x2048x128) (k0_off3 k) S1x128x128.size (k0_off3_inb k),
        tripOf (View.readAt (Elt Ideal) arg15.view (Rect.unit (s := S16x256) (k0_off2 k) S1x256.size (k0_off2_inb k)).toLoadRect X_arg15)
          (View.readAt (Elt Ideal) arg16.view (Rect.unit ![0, 0] S16x256.size inb_S16x256_S16x256_0_0).toLoadRect X_arg16)
          (View.readAt (Elt Ideal) arg17.view (Rect.unit ![0, 0] S16x256.size inb_S16x256_S16x256_0_0).toLoadRect X_arg17)
          (arg14.view.readCov (Val := Elt Ideal) [⟨Rect.unit ![0, 0] S2048x256.size inb_S2048x256_S2048x256_0_0, k0_pay2 (View.readAt (Elt Ideal) arg12.view (Rect.unit ![0, 0] S2048x128.size inb_S2048x128_S2048x128_0_0).toLoadRect X_arg12)
            (View.readAt (Elt Ideal) arg13.view (Rect.unit (s := S128x4096) (k0_off1 k) S128x256.size (k0_off1_inb k)).toLoadRect X_arg13)⟩] (Rect.unit ![0, 0] S2048x256.size inb_S2048x256_S2048x256_0_0).toLoadRect)
          (fun j => arg14.view.readCov (Val := Elt Ideal) [⟨Rect.unit ![0, 0] S2048x256.size inb_S2048x256_S2048x256_0_0, k0_pay2 (View.readAt (Elt Ideal) arg12.view (Rect.unit ![0, 0] S2048x128.size inb_S2048x128_S2048x128_0_0).toLoadRect X_arg12)
            (View.readAt (Elt Ideal) arg13.view (Rect.unit (s := S128x4096) (k0_off1 k) S128x256.size (k0_off1_inb k)).toLoadRect X_arg13)⟩] (runRect j).toLoadRect)
          (fun g j => View.readAt (Elt Ideal) arg10.view (tileRect g j).toLoadRect X_arg10)⟩]) ?_ ?_
  · unfold trip_k0_t1
    rfl
  · rw [hL]
    simp only [hR]

end

end Cert.Quant
-- ==== Proof.Loop.lean ====
/- What the kernel's loop leaves: the attention of every query of the two heads. -/
module

public import proofs.«01_k».proof.Proof.LoopTrip

@[expose] public section

set_option maxRecDepth 16384

noncomputable section

namespace Cert.Quant

open Idealize.ShloMosaic Idealize.ShloMosaic.TcCoe Idealize.SL Idealize.SL.Sem
open Cert.KernelIdeal Cert.KernelIdeal.Gen

/-- The lane `d` of the head `g` of the two. -/
abbrev half (g : Fin 2) (d : Fin 64) : Fin 128 := ⟨g.val * 64 + d.val, by omega⟩

/-- The column of a run's query in the block-diagonal array. -/
abbrev slabCol (n : Fin 16) (g : Fin 2) (q : Fin 128) : Fin 4096 := ⟨n.val * 256 + g.val * 128 + q.val, by omega⟩

/-- A sum over the lanes, head by head. -/
theorem sum_lanes (f : Fin 128 → EReal) : ∑ l, f l = ∑ h : Fin 2, ∑ d : Fin 64, f (half h d) := by
  rw [← Equiv.sum_comp (finProdFinEquiv : Fin 2 × Fin 64 ≃ Fin 128) f, Fintype.sum_prod_type]
  refine Finset.sum_congr rfl fun h _ => Finset.sum_congr rfl fun d _ => congrArg f (Fin.ext ?_)
  show d.val + 64 * h.val = h.val * 64 + d.val
  omega

/-- A score: a sum over the lanes. -/
theorem scores_at (a : Vec Ideal S2048x128 .fp8e4m3) (b : Vec Ideal S128x256 .fp8e4m3) (r : Fin 2048) (x : Fin 256) :
    k0_pay2 a b (ix2 r x) = ∑ l : Fin 128, a (ix2 r l) * b (ix2 l x) := by
  pointwise [k0_pay2]

/-- The scores of a head's queries: the other head's lanes are multiplied by zero. -/
theorem scores_diag (a : Vec Ideal S2048x128 .fp8e4m3) (b : Vec Ideal S128x256 .fp8e4m3) (Q K : Codes) (n : Fin 16) (g : Fin 2)
    (ha : ∀ j t d, a (ix2 (key j t) (half g d)) = K j t d)
    (hb : ∀ h d q, b (ix2 (half h d) (lane g q)) = if h = g then Q n q d else 0) (j : Fin 16) (t q : Fin 128) :
    k0_pay2 a b (ix2 (key j t) (lane g q)) = dotOf Q K n q j t := by
  rw [scores_at, sum_lanes, Finset.sum_eq_single g]
  · unfold dotOf
    refine Finset.sum_congr rfl fun d _ => ?_
    rw [ha, hb, if_pos rfl, mul_comm]
  · intro h _ hh
    refine Finset.sum_eq_zero fun d _ => ?_
    rw [hb, if_neg hh, mul_zero]
  · intro h
    exact absurd (Finset.mem_univ g) h

/-- The number of trips. -/
theorem trips_eq : k0_t1_loop.trips = 16 := by decide +kernel

/-- The rows a trip stores. -/
theorem trip_holds (k : Fin k0_t1_loop.trips) (n : Fin 16) (hkn : k.val = n.val) (q : Fin 128) (x : Fin 128) :
    (ix3 0 (key n q) x : S1x2048x128.Idx) ∈ (Rect.unit (s := S1x2048x128) (k0_off3 k) S1x128x128.size (k0_off3_inb k)).set := by
  refine Rect.mem_set_unit.mpr ?_
  rw [k0_off3_eq]
  intro a
  fin_cases a
  · exact ⟨Nat.le_refl 0, Nat.one_pos⟩
  · show 128 * k.val ≤ n.val * 128 + q.val ∧ n.val * 128 + q.val < 128 * k.val + 128
    omega
  · show 0 ≤ x.val ∧ x.val < 0 + 128
    omega

/-- Where a trip stores an entry of its piece. -/
theorem trip_place (k : Fin k0_t1_loop.trips) (b : Fin 1) (q' l : Fin 128) (n : Fin 16) (q x : Fin 128)
    (h : (Rect.unit (s := S1x2048x128) (k0_off3 k) S1x128x128.size (k0_off3_inb k)).emb (ix3 b q' l) = ix3 0 (key n q) x) :
    k.val = n.val ∧ b = 0 ∧ q' = q ∧ l = x := by
  have e1 : k0_off3 k 1 + 1 * q'.val = n.val * 128 + q.val := congrArg (fun y : S1x2048x128.Idx => (y 1).val) h
  have e2 : k0_off3 k 2 + 1 * l.val = x.val := congrArg (fun y : S1x2048x128.Idx => (y 2).val) h
  rw [k0_off3_eq] at e1 e2
  replace e1 : 128 * k.val + 1 * q'.val = n.val * 128 + q.val := e1
  replace e2 : 0 + 1 * l.val = x.val := e2
  refine ⟨by omega, Subsingleton.elim _ _, Fin.ext (by omega), Fin.ext (by omega)⟩

section

variable
    (𝒱 : Variants) (c : Dev nD) (bd : Option 𝒱.V) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x128x2048 .fp8e4m3) (harg6 : arg6.IsWhole)
    (arg7 : Memref sig .tc .vmem S1x16x16 .f32) (harg7 : arg7.IsWhole) (arg8 : Memref sig .tc .vmem S1x128x2048 .fp8e4m3) (harg8 : arg8.IsWhole)
    (arg9 : Memref sig .tc .vmem S1x16x16 .f32) (harg9 : arg9.IsWhole) (arg10 : Memref sig .tc .vmem S1x128x2048 .fp8e4m3) (harg10 : arg10.IsWhole)
    (arg11 : Memref sig .tc .vmem S1x16x16 .f32) (harg11 : arg11.IsWhole) (arg12 : Memref sig .tc .vmem S2048x128 .fp8e4m3) (harg12 : arg12.IsWhole)
    (arg13 : Memref sig .tc .vmem S128x4096 .fp8e4m3) (harg13 : arg13.IsWhole) (arg14 : Memref sig .tc .vmem S2048x256 .f32) (harg14 : arg14.IsWhole)
    (arg15 : Memref sig .tc .vmem S16x256 .f32) (harg15 : arg15.IsWhole) (arg16 : Memref sig .tc .vmem S16x256 .f32) (harg16 : arg16.IsWhole)
    (arg17 : Memref sig .tc .vmem S16x256 .f32) (harg17 : arg17.IsWhole) (c0_i32_788 : BitVec 32) (X_arg10 : BufTy.Contents (Elt Ideal) arg10.view.ty)
    (X_arg12 : BufTy.Contents (Elt Ideal) arg12.view.ty) (X_arg13 : BufTy.Contents (Elt Ideal) arg13.view.ty)
    (X_arg15 : BufTy.Contents (Elt Ideal) arg15.view.ty) (X_arg16 : BufTy.Contents (Elt Ideal) arg16.view.ty)
    (X_arg17 : BufTy.Contents (Elt Ideal) arg17.view.ty)
  (Q K U : Codes) (qs ks us : Fin 16 → EReal) (g : Fin 2)
  (hq : ∀ n, 0 ≤ qs n) (hk : ∀ n, 0 ≤ ks n)
  (hK : ∀ j t d, View.readAt (Elt Ideal) arg12.view (Rect.unit ![0, 0] S2048x128.size inb_S2048x128_S2048x128_0_0).toLoadRect X_arg12 (ix2 (key j t) (half g d)) = K j t d)
  (hQ : ∀ n h d q, arg13.view.read (Elt Ideal) X_arg13 (ix2 (half h d) (slabCol n g q)) = if h = g then Q n q d else 0)
  (hqs : ∀ n q, arg15.view.read (Elt Ideal) X_arg15 (ix2 n (lane g q)) = qs n)
  (hks : ∀ j q, View.readAt (Elt Ideal) arg16.view (Rect.unit ![0, 0] S16x256.size inb_S16x256_S16x256_0_0).toLoadRect X_arg16 (ix2 j (lane g q)) = ks j)
  (hus : ∀ j q, View.readAt (Elt Ideal) arg17.view (Rect.unit ![0, 0] S16x256.size inb_S16x256_S16x256_0_0).toLoadRect X_arg17 (ix2 j (lane g q)) = us j)
  (hU : ∀ j d t, arg10.view.read (Elt Ideal) X_arg10 (ix3 0 (half g d) (key j t)) = U j t d)

/-- Some trip holds every entry. -/
theorem loop_covers (n : Fin 16) (q : Fin 128) (d : Fin 64) (N : ℕ) (hN : N ≤ k0_t1_loop.trips) (hn : n.val < N) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 N).1, (ix3 0 (key n q) (half g d) : S1x2048x128.Idx) ∈ p.1.set := by
  induction N with
  | zero => exact absurd hn (Nat.not_lt_zero _)
  | succ N ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 ⟨N, hN⟩
    rw [show N + 1 = (⟨N, hN⟩ : Fin k0_t1_loop.trips).val + 1 from rfl, e]
    dsimp only
    rw [trip_piece, List.singleton_append]
    rcases Nat.lt_or_ge n.val N with h | h
    · obtain ⟨p, hp, hy⟩ := ih (by omega) h
      exact ⟨p, List.mem_cons_of_mem _ hp, hy⟩
    · exact List.exists_mem_cons_of _ (trip_holds _ n (show N = n.val by omega) q (half g d))

include hq hk hK hQ hqs hks hus hU

/-- The pieces of the trips that hold an entry hold its attention. -/
theorem loop_pieces (n : Fin 16) (q : Fin 128) (d : Fin 64) (N : ℕ) (hN : N ≤ k0_t1_loop.trips) :
    View.AllAt (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 N).1 (ix3 0 (key n q) (half g d)) (attn Q K U qs ks us n q d) := by
  induction N with
  | zero => intro p hp; exact absurd hp List.not_mem_nil
  | succ N ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 ⟨N, hN⟩
    rw [show N + 1 = (⟨N, hN⟩ : Fin k0_t1_loop.trips).val + 1 from rfl, e]
    dsimp only
    have hslab : ∀ (n : Fin 16) (k : Fin k0_t1_loop.trips) (_ : k.val = n.val) (h : Fin 2) (d : Fin 64) (q : Fin 128),
        View.readAt (Elt Ideal) arg13.view (Rect.unit (s := S128x4096) (k0_off1 k) S128x256.size (k0_off1_inb k)).toLoadRect X_arg13 (ix2 (half h d) (lane g q)) = if h = g then Q n q d else 0 := by
      intro n k hkn h d q
      rw [← hQ n h d q, View.readAt_apply]
      refine congrArg (View.read (Elt Ideal) arg13.view X_arg13) (funext fun a => Fin.ext ?_)
      have e0 : k0_off1 k 0 = 0 := by rw [k0_off1_eq]; rfl
      have e1 : k0_off1 k 1 = 256 * k.val := by rw [k0_off1_eq]; rfl
      fin_cases a
      · show k0_off1 k 0 + 1 * (half h d).val = (half h d).val; omega
      · show k0_off1 k 1 + 1 * (g.val * 128 + q.val) = n.val * 256 + g.val * 128 + q.val; omega
    rw [trip_piece, List.singleton_append]
    refine View.allAt_cons _ _ _ ?_ (ih (by omega))
    intro x hx
    obtain ⟨b, q', l, rfl⟩ : ∃ (b : Fin 1) (q' l : Fin 128), x = ix3 b q' l :=
      ⟨x 0, x 1, x 2, funext fun a => by fin_cases a <;> rfl⟩
    obtain ⟨hn, rfl, rfl, rfl⟩ := trip_place _ _ _ _ _ _ _ hx
    have hn' : N = n.val := hn
    subst hn'
    refine trip_attn Q K U qs ks us hq hk n g _ _ _ _ _ _ ?_ hks hus ?_ ?_ ?_ q' d
    · intro r
      rw [← hqs n r, View.readAt_apply]
      refine congrArg (View.read (Elt Ideal) arg15.view X_arg15) (funext fun a => Fin.ext ?_)
      have e0 : k0_off2 ⟨n.val, hN⟩ 0 = n.val := by rw [k0_off2_eq]; rfl
      have e1 : k0_off2 ⟨n.val, hN⟩ 1 = 0 := by rw [k0_off2_eq]; rfl
      fin_cases a
      · show k0_off2 ⟨n.val, hN⟩ 0 + 1 * 0 = n.val; omega
      · show k0_off2 ⟨n.val, hN⟩ 1 + 1 * (lane g r).val = (lane g r).val; omega
    · exact scores_diag _ _ Q K n g hK (hslab n _ rfl)
    · intro j t r
      rw [← scores_diag _ _ Q K n g hK (hslab n _ rfl) j t r]
      refine congrArg (k0_pay2 _ _) (funext fun a => Fin.ext ?_)
      fin_cases a
      · show j.val * 128 + 1 * t.val = j.val * 128 + t.val; omega
      · show 0 + 1 * (lane g r).val = (lane g r).val; omega
    · intro j d t
      rw [← hU j d t, View.readAt_apply]
      refine congrArg (View.read (Elt Ideal) arg10.view X_arg10) (funext fun a => Fin.ext ?_)
      fin_cases a
      · rfl
      · show g.val * 64 + 1 * d.val = g.val * 64 + d.val; omega
      · show j.val * 128 + 1 * t.val = j.val * 128 + t.val; omega

/-- What the loop leaves. -/
theorem loop_attn (n : Fin 16) (q : Fin 128) (d : Fin 64) (N : ℕ) (hN : N = k0_t1_loop.trips) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 N).1 (ix3 0 (key n q) (half g d)) = attn Q K U qs ks us n q d := by
  subst hN
  refine View.canon_eq_of_allAt _ _ _ (loop_covers 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 g n q d _ (Nat.le_refl _) (by rw [trips_eq]; exact n.isLt)) (loop_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_788 X_arg10 X_arg12 X_arg13 X_arg15 X_arg16 X_arg17 Q K U qs ks us g hq hk hK hQ hqs hks hus hU n q d _ (Nat.le_refl _))

end

end Cert.Quant
-- ==== Proof.Slab.lean ====
/- The two arrays of codes that the kernel's loop multiplies: the second input's, token by row, and the first input's, the two
   heads on the diagonal of each run's block. -/
module

public import proofs.«01_k».proof.Proof.Loop
public import Idealize.ShloMosaic.Lib.Pointwise

@[expose] public section

set_option maxRecDepth 16384

noncomputable section

namespace Cert.Quant

open Idealize.ShloMosaic Idealize.ShloMosaic.TcCoe Idealize.SL Idealize.SL.Sem
open Cert.KernelIdeal Cert.KernelIdeal.Gen

/-- The second input's codes, from its inverse scales. -/
theorem keyCodes_at (W : FVec Ideal S16x256 .f32) (v : Vec Ideal S1x2048x128 .bf16) (j : Fin 16) (t l : Fin 128) :
    k0_pay256 (k0_pay254 lanes W v) (Scalar.ofBits .f32 0x43E00000#32) k0_pay255 (ix2 (key j t) l)
      = clip (v (ix3 0 (key j t) l) * W (ix2 j ⟨l.val / 64 * 128 + l.val, by omega⟩)) := by
  have e1 : (⟨(key j t).val / 128, by omega⟩ : Fin 16) = j := Fin.ext (show (j.val * 128 + t.val) / 128 = j.val by omega)
  have e2 : (⟨(key j t).val / 128 * 128 + (key j t).val % 128, by omega⟩ : Fin 2048) = key j t :=
    Fin.ext (show (j.val * 128 + t.val) / 128 * 128 + (j.val * 128 + t.val) % 128 = j.val * 128 + t.val by omega)
  pointwise [k0_pay256, k0_pay254, k0_pay255]
  show clip (v (ix3 0 _ l) * Scalar.select (IntOp.cmpi CmpIPredicate.eq (laneQuot l) 1#32) (W (ix2 _ _)) (W (ix2 _ _))) = _
  rw [laneQuot_second]
  refine congrArg clip (congrArg₂ (· * ·) (congrArg (fun r => v (ix3 0 r l)) e2) ?_)
  by_cases e : l.val < 64
  · rw [if_pos e]
    refine congrArg W ((ix2_inj ..).2 ⟨e1, Fin.ext ?_⟩)
    show l.val = l.val / 64 * 128 + l.val; omega
  · rw [if_neg e]
    refine congrArg W ((ix2_inj ..).2 ⟨e1, Fin.ext ?_⟩)
    show 128 + l.val = l.val / 64 * 128 + l.val; omega

/-- The same in a block, by head. -/
theorem keyCodes_block (v : Vec Ideal S1x2048x128 .bf16) (W : FVec Ideal S16x256 .f32) (hW : W = invVec v) (j : Fin 16) (t : Fin 128) (g : Fin 2) (d : Fin 64) :
    k0_pay256 (k0_pay254 lanes W v) (Scalar.ofBits .f32 0x43E00000#32) k0_pay255 (ix2 (key j t) (half g d)) = blockCode v j g t d := by
  subst hW
  rw [keyCodes_at, blockCode]
  congr 2
  refine Eq.trans (congrArg (invVec v) ((ix2_inj ..).2 ⟨rfl, Fin.ext ?_⟩)) (invVec_at v j g (half g d))
  show (g.val * 64 + d.val) / 64 * 128 + (g.val * 64 + d.val) = g.val * 128 + (g.val * 64 + d.val)
  omega

section Slab

variable {κ : Kind} {sp : Space} (w : View sig κ sp S1x128x2048 .fp8e4m3) (T : List (View.Piece (Elt Ideal) S1x128x2048 .fp8e4m3))

/-- The half tile that the store `k` takes. -/
abbrev halfRect (k : ℕ) : Rect S1x128x2048 :=
  Rect.unit ![0, 64 * (k % 2), 128 * (k / 2 % 16)] S1x64x128.size (by
    intro a; fin_cases a
    · exact Nat.le_refl 1
    · show 64 * (k % 2) + 64 ≤ 128; omega
    · show 128 * (k / 2 % 16) + 128 ≤ 2048; omega)

/-- Where the store `k` puts it. -/
abbrev slabRect (k : ℕ) : Rect S128x4096 :=
  Rect.unit ![64 * (k % 2), 128 * (k % 32)] S64x128.size (by
    intro a; fin_cases a
    · show 64 * (k % 2) + 64 ≤ 128; omega
    · show 128 * (k % 32) + 128 ≤ 4096; omega)

/-- The first `N` stores, over zeros. -/
def slabPieces : ℕ → List (View.Piece (Elt Ideal) S128x4096 .fp8e4m3)
  | 0 => [⟨Rect.unit ![0, 0] S128x4096.size inb_S128x4096_S128x4096_0_0, k0_pay257 (F := Ideal)⟩]
  | k + 1 => ⟨slabRect k, k0_pay258 (F := Ideal) (w.readCov T (halfRect k).toLoadRect)⟩ :: slabPieces k

/-- The half tile, read. -/
theorem halfTile_at (L : Vec Ideal S1x64x128 .fp8e4m3) (d : Fin 64) (q : Fin 128) : k0_pay258 L (ix2 d q) = L (ix3 0 d q) := by
  pointwise [k0_pay258]

/-- The array after `N` stores. -/
theorem slab_at (Q : Fin 2 → Codes) (hT : ∀ n g s d, View.canon T (ix3 0 (half g d) (key n s)) = Q g n s d)
    (n : Fin 16) (g h : Fin 2) (d : Fin 64) (q : Fin 128) (N : ℕ) (hN : N ≤ 32) :
    View.canon (slabPieces w T N) (ix2 (half h d) (slabCol n g q)) = if h = g ∧ n.val * 2 + g.val < N then Q g n q d else 0 := by
  induction N with
  | zero =>
    rw [if_neg (by omega), slabPieces, View.canon_cons_unit_lit _ _ _ (by decide)]
    exact Ideal.ofBits_zero .fp8e4m3
  | succ N ih =>
    rw [slabPieces]
    by_cases hm : h = g ∧ n.val * 2 + g.val = N
    · obtain ⟨rfl, hm⟩ := hm
      rw [if_pos ⟨rfl, by omega⟩]
      have e : (ix2 (half h d) (slabCol n h q) : S128x4096.Idx) = (slabRect N).emb (ix2 d q) := by
        refine funext fun a => Fin.ext ?_
        fin_cases a
        · show h.val * 64 + d.val = 64 * (N % 2) + 1 * d.val; omega
        · show n.val * 256 + h.val * 128 + q.val = 128 * (N % 32) + 1 * q.val; omega
      rw [e, View.canon_cons_emb, halfTile_at, View.readCov_eq_canon', ← hT n h q d]
      refine congrArg (View.canon T) (funext fun a => Fin.ext ?_)
      fin_cases a
      · rfl
      · show 64 * (N % 2) + 1 * d.val = h.val * 64 + d.val; omega
      · show 128 * (N / 2 % 16) + 1 * q.val = n.val * 128 + q.val; omega
    · rw [View.canon_cons_of_not_mem, ih (by omega)]
      · refine if_congr ?_ rfl rfl
        constructor
        · rintro ⟨h1, h2⟩; exact ⟨h1, by omega⟩
        · rintro ⟨h1, h2⟩
          have h3 : ¬ n.val * 2 + g.val = N := fun h3 => hm ⟨h1, h3⟩
          exact ⟨h1, by omega⟩
      · intro hy
        replace hy : _ ∈ (slabRect N).set := hy
        rw [Rect.mem_set_unit] at hy
        have h0 : 64 * (N % 2) ≤ h.val * 64 + d.val ∧ h.val * 64 + d.val < 64 * (N % 2) + 64 := hy 0
        have h1 : 128 * (N % 32) ≤ n.val * 256 + g.val * 128 + q.val ∧ n.val * 256 + g.val * 128 + q.val < 128 * (N % 32) + 128 := hy 1
        exact hm ⟨Fin.ext (by omega), by omega⟩

end Slab

end Cert.Quant
-- ==== Proof.YWindow.lean ====
/- What a grid point leaves in the window of the result: the attention of its two heads. -/
module

public import proofs.«01_k».proof.Proof.Slab
public import proofs.«01_k».proof.Proof.Codes

@[expose] public section

set_option maxRecDepth 16384

noncomputable section

namespace Cert.Quant

open Idealize.ShloMosaic Idealize.ShloMosaic.TcCoe Idealize.SL Idealize.SL.Sem
open Cert.KernelIdeal Cert.KernelIdeal.Gen

variable (m : (ℓ : Loc nD τ sig) → Buf (Elt Ideal) ℓ)

/-- The codes of a head of a block. -/
def blockCodes (v : Vec Ideal S1x2048x128 .bf16) (g : Fin 2) : Codes := fun n s d => blockCode v n g s d

/-- The scales of a head of a block. -/
def blockScales (v : Vec Ideal S1x2048x128 .bf16) (g : Fin 2) : Fin 16 → EReal := fun n => pw (blockExpo v n g)

/-- What the loop reads of the scales is what the first store took: a cast to the same shape. -/
theorem scale_self_x (e : IVec S16x256 32) : k0_pay115 (F := Ideal) e = k0_pay114 e := shapeCast_self _ _
theorem scale_self_k (a : FVec Ideal S16x256 .f32) (b : IVec S16x256 32) : k0_pay187 a b = k0_pay186 a b := shapeCast_self _ _
theorem scale_self_v (a : IVec S16x256 32) (b : IVec S16x256 1) : k0_pay224 (F := Ideal) a b = k0_pay223 a b := shapeCast_self _ _

/-- The entry of the result's window at query `n * 128 + q`, column `g * 64 + d`. -/
theorem result_y (c : Dev nD) (t : Fin cfg0.N) (n : Fin 16) (q : Fin 128) (g : Fin 2) (d : Fin 64) :
    (outsAt0 m c t.val t.isLt).1 (ix3 0 (key n q) (half g d))
      = attn (blockCodes (iblk m c 0 t) g) (blockCodes (iblk m c 1 t) g) (blockCodes (iblk m c 2 t) g)
          (blockScales (iblk m c 0 t) g) (blockScales (iblk m c 1 t) g) (blockScales (iblk m c 2 t) g) n q d := by
  by_cases hc : t.val % 8 = 0
  · rw [outsAt0_A m c t hc hc hc]
    dsimp only
    frame_out
    refine loop_attn _ _ _ _ _ _ _ _ _ _ _ _ _ _ _ _ _ _ _ _ _ _ _ _ _ _ _ _ _ _ _ _ _ _ _ _ _ _ _ _ _ _ _ _ _ _ _ _ _ g (fun n => (pw_nonneg _)) (fun n => (pw_nonneg _)) ?_ ?_ ?_ ?_ ?_ ?_ n q d _ rfl
    · intro j t d
      refine (congrFun (View.readCov_cons_toLoadRect _ _ _ []) _).trans ?_
      exact keyCodes_block _ _ (k_inv _) j t g d
    · intro n h d q
      refine (congrFun (View.read_writes_junk_eq_canon _ _) _).trans ?_
      refine (slab_at _ _ (blockCodes (iblk m c 0 t)) ?_ n g h d q 32 (Nat.le_refl _)).trans
        (if_congr ⟨fun e => e.1, fun e => ⟨e, by omega⟩⟩ rfl rfl)
      intro n g s d
      refine Eq.trans ?_ (codes_x m c t (ix3 0 (half g d) (key n s)) n g s d rfl rfl)
      rw [outsAt0_A m c t hc hc hc]
      dsimp only
      frame_out
    · intro n q
      refine (congrFun (View.read_writes_junk_eq_canon _ _) _).trans ?_
      refine (congrFun (View.canon_cons_unit_lit _ _ _ (by decide)) _).trans ?_
      refine (congrFun (scale_self_x _) _).trans ?_
      exact (congrFun (x_scale _) _).trans (scaleVec_at _ n g q)
    · intro j q
      refine (congrFun (View.readCov_cons_toLoadRect _ _ _ []) _).trans ?_
      refine (congrFun (scale_self_k _ _) _).trans ?_
      exact (congrFun (k_scale _) _).trans (scaleVec_at _ j g q)
    · intro j q
      refine (congrFun (View.readCov_cons_toLoadRect _ _ _ []) _).trans ?_
      refine (congrFun (scale_self_v _ _) _).trans ?_
      exact (congrFun (v_scale _) _).trans (scaleVec_at _ j g q)
    · intro j d t'
      refine (congrFun (View.read_writes_junk_eq_canon _ _) _).trans ?_
      refine Eq.trans ?_ (codes_v m c t (ix3 0 (half g d) (key j t')) j g t' d rfl rfl)
      rw [outsAt0_A m c t hc hc hc]
      dsimp only
      frame_out
  · rw [outsAt0_B m c t hc hc hc]
    dsimp only
    frame_out
    refine loop_attn _ _ _ _ _ _ _ _ _ _ _ _ _ _ _ _ _ _ _ _ _ _ _ _ _ _ _ _ _ _ _ _ _ _ _ _ _ _ _ _ _ _ _ _ _ _ _ _ _ g (fun n => (pw_nonneg _)) (fun n => (pw_nonneg _)) ?_ ?_ ?_ ?_ ?_ ?_ n q d _ rfl
    · intro j t d
      refine (congrFun (View.readCov_cons_toLoadRect _ _ _ []) _).trans ?_
      exact keyCodes_block _ _ (k_inv _) j t g d
    · intro n h d q
      refine (congrFun (View.read_writes_junk_eq_canon _ _) _).trans ?_
      refine (slab_at _ _ (blockCodes (iblk m c 0 t)) ?_ n g h d q 32 (Nat.le_refl _)).trans
        (if_congr ⟨fun e => e.1, fun e => ⟨e, by omega⟩⟩ rfl rfl)
      intro n g s d
      refine Eq.trans ?_ (codes_x m c t (ix3 0 (half g d) (key n s)) n g s d rfl rfl)
      rw [outsAt0_B m c t hc hc hc]
      dsimp only
      frame_out
    · intro n q
      refine (congrFun (View.read_writes_junk_eq_canon _ _) _).trans ?_
      refine (congrFun (View.canon_cons_unit_lit _ _ _ (by decide)) _).trans ?_
      refine (congrFun (scale_self_x _) _).trans ?_
      exact (congrFun (x_scale _) _).trans (scaleVec_at _ n g q)
    · intro j q
      refine (congrFun (View.readCov_cons_toLoadRect _ _ _ []) _).trans ?_
      refine (congrFun (scale_self_k _ _) _).trans ?_
      exact (congrFun (k_scale _) _).trans (scaleVec_at _ j g q)
    · intro j q
      refine (congrFun (View.readCov_cons_toLoadRect _ _ _ []) _).trans ?_
      refine (congrFun (scale_self_v _ _) _).trans ?_
      exact (congrFun (v_scale _) _).trans (scaleVec_at _ j g q)
    · intro j d t'
      refine (congrFun (View.read_writes_junk_eq_canon _ _) _).trans ?_
      refine Eq.trans ?_ (codes_v m c t (ix3 0 (half g d) (key j t')) j g t' d rfl rfl)
      rw [outsAt0_B m c t hc hc hc]
      dsimp only
      frame_out

end Cert.Quant
-- ==== Proof.ArrayY.lean ====
/- The kernel's array of results after the run. -/
module

public import proofs.«01_k».proof.Proof.YWindow
public import proofs.«01_k».proof.Proof.Arrays

@[expose] public section

set_option maxRecDepth 16384

noncomputable section

namespace Cert.Quant

open Idealize.ShloMosaic Idealize.ShloMosaic.TcCoe Idealize.SL Idealize.SL.Sem
open Cert.KernelIdeal Cert.KernelIdeal.Gen

variable (m : (ℓ : Loc nD τ sig) → Buf (Elt Ideal) ℓ)

/-- The codes of a head of a block are those of the input's head. -/
theorem blockCodes_of (v : Vec Ideal S1x2048x128 .bf16) (X : Entries) (p : Fin 8) (b : Fin 8) (hv : ∀ (s : Fin 2048) (l : Fin 128), v (ix3 0 s l) = X b s ⟨p.val * 128 + l.val, by omega⟩)
    (g : Fin 2) (h : Fin 16) (hh : h.val = p.val * 2 + g.val) : blockCodes v g = headOf X b h :=
  funext fun n => funext fun s => funext fun d => blockCode_of v X p b hv n g s d h hh

/-- The scales of a head of a block are those of the input's head. -/
theorem blockScales_of (v : Vec Ideal S1x2048x128 .bf16) (X : Entries) (p : Fin 8) (b : Fin 8) (hv : ∀ (s : Fin 2048) (l : Fin 128), v (ix3 0 s l) = X b s ⟨p.val * 128 + l.val, by omega⟩)
    (g : Fin 2) (h : Fin 16) (hh : h.val = p.val * 2 + g.val) : blockScales v g = scalesOf X b h :=
  funext fun n => congrArg pw (blockExpo_of v X p b hv n g h hh)

theorem attn_congr {Q Q' K K' U U' : Codes} {qs qs' ks ks' us us' : Fin 16 → EReal} (h1 : Q = Q') (h2 : K = K') (h3 : U = U')
    (h4 : qs = qs') (h5 : ks = ks') (h6 : us = us') (n : Fin 16) (q : Fin 128) (d : Fin 64) :
    attn Q K U qs ks us n q d = attn Q' K' U' qs' ks' us' n q d := by
  subst h1 h2 h3 h4 h5 h6; rfl

/-- The result: the attention of the three inputs. -/
theorem arr_y (c : Dev nD) : (dats m 0 c).arrAt 3 cfg0.N
    = attnArr (entries (m ((c : Thread nD τ).loc main_arg0))) (entries (m ((c : Thread nD τ).loc main_arg1))) (entries (m ((c : Thread nD τ).loc main_arg2))) := by
  refine (dats m 0 c).arrAt_eq_of_covers 3 _ (by decide +kernel) fun t hf y => ?_
  obtain ⟨e0, e1, e2⟩ := index3 t
  have ht := lt64 t
  blk_simp
  rw [after0_3]
  obtain ⟨n, q, g, d, rfl⟩ : ∃ (n : Fin 16) (q : Fin 128) (g : Fin 2) (d : Fin 64), y = (ix3 0 (key n q) (half g d) : S1x2048x128.Idx) := by
    have y1 : (y 1).val < 2048 := (y 1).isLt
    have y2 : (y 2).val < 128 := (y 2).isLt
    refine ⟨⟨(y 1).val / 128, by omega⟩, ⟨(y 1).val % 128, by omega⟩, ⟨(y 2).val / 64, by omega⟩, ⟨(y 2).val % 64, by omega⟩,
      (eq_ix3 y).trans ((ix3_inj ..).2 ⟨Subsingleton.elim _ _, Fin.ext ?_, Fin.ext ?_⟩)⟩
    · show (y 1).val = (y 1).val / 128 * 128 + (y 1).val % 128; omega
    · show (y 2).val = (y 2).val / 64 * 64 + (y 2).val % 64; omega
  refine (result_y m c t n q g d).trans ?_
  have hh : (⟨t.val % 8 * 2 + g.val, by omega⟩ : Fin 16).val = (⟨t.val % 8, by omega⟩ : Fin 8).val * 2 + g.val := rfl
  refine (attn_congr (blockCodes_of _ _ ⟨t.val % 8, by omega⟩ _ (block_x m c t) g _ hh) (blockCodes_of _ _ ⟨t.val % 8, by omega⟩ _ (block_k m c t) g _ hh) (blockCodes_of _ _ ⟨t.val % 8, by omega⟩ _ (block_v m c t) g _ hh)
    (blockScales_of _ _ ⟨t.val % 8, by omega⟩ _ (block_x m c t) g _ hh) (blockScales_of _ _ ⟨t.val % 8, by omega⟩ _ (block_k m c t) g _ hh) (blockScales_of _ _ ⟨t.val % 8, by omega⟩ _ (block_v m c t) g _ hh) n q d).trans ?_
  refine (attnArr_at _ _ _ _ _ _ _ _ _ ?_ ?_ ?_).symm
  · blk_simp [e0]
    rfl
  · blk_simp [e1]
  · blk_simp [e2]
    show t.val % 8 * 128 + (g.val * 64 + d.val) = (t.val % 8 * 2 + g.val) * 64 + d.val
    omega

end Cert.Quant
-- ==== Proof.RefScale.lean ====
/- The reference's exponents: a count of the powers of two that are at most the quotient. -/
module

public import proofs.«01_k».proof.Proof.Spec
public import proofs.«01_k».proof.Proof.Gen.ReferenceIdeal.Value

@[expose] public section

set_option maxRecDepth 16384

noncomputable section

namespace Cert.Quant

open Idealize.ShloMosaic Idealize.ShloMosaic.TcCoe
open Cert.ReferenceIdeal Cert.ReferenceIdeal.Gen

/-- The reference's constant `126`. -/
theorem const126 : Ideal.ofBits .f32 0x42FC0000#32 = ((126 : ℝ) : EReal) := by
  simp [Ideal.ofBits, Ideal.ieee, -EReal.coe_mul]
  norm_num

/-- The reference's constant infinity. -/
theorem constTop : Ideal.ofBits .f32 0x7F800000#32 = (⊤ : EReal) := by
  simp [Ideal.ofBits, Ideal.ieee]

/-- The count of the powers of two that are at most `y`. -/
theorem count_at (y : EReal) :
    (∑ x : Fin 254, if FloatOps.exp2 (F := Ideal) (φ := .f32) (FloatOps.sitofp (F := Ideal) FTy.f32 (BitVec.ofNat 32 x.val) - Ideal.ofBits FTy.f32 0x42FC0000#32) ≤ y then (1 : EReal) else 0)
      = ((min (rank y) 254 : ℕ) : EReal) := by
  rw [← count_eq y]
  refine Finset.sum_congr rfl fun j _ => ?_
  have e : FloatOps.sitofp (F := Ideal) FTy.f32 (BitVec.ofNat 32 j.val) - Ideal.ofBits FTy.f32 0x42FC0000#32 = ((((j.val : ℤ) - 126 : ℤ) : ℝ) : EReal) := by
    have e1 : (BitVec.ofNat 32 j.val).toInt = (j.val : ℤ) := by
      revert j; decide
    rw [const126]
    show (((BitVec.ofNat 32 j.val).toInt : ℝ) : EReal) - _ = _
    rw [e1, ← EReal.coe_sub]
    push_cast
    rfl
  rw [e]
  rfl

/-- The exponent from the count. -/
theorem select_expo (y c z : EReal) (hc : c = ((min (rank y) 254 : ℕ) : EReal)) (hz : z = 0) :
    Scalar.select (IntOp.ori (BitVec.ofBool (decide (c = z))) (BitVec.ofBool (decide (y = Ideal.ofBits FTy.f32 0x7F800000#32)))) (0 : EReal)
        (c - Ideal.ofBits FTy.f32 0x42FC0000#32) = (((expo y : ℤ) : ℝ) : EReal) := by
  rw [← ref_expo y c hc, const126, constTop, hz]
  by_cases h1 : c = 0 <;> by_cases h2 : y = ⊤ <;> simp [h1, h2, Scalar.select, IntOp.ori]

end Cert.Quant
-- ==== Proof.RefCodes.lean ====
/- The reference's scales and codes are the ones of the specification. -/
module

public import proofs.«01_k».proof.Proof.RefScale

@[expose] public section

set_option maxRecDepth 16384

noncomputable section

namespace Cert.Quant

open Idealize.ShloMosaic Idealize.ShloMosaic.TcCoe
open Cert.ReferenceIdeal Cert.ReferenceIdeal.Gen

variable (v : Vec Ideal S8x2048x1024 .bf16)

/-- The quotient of a block. -/
theorem ref_quot (b : Fin 8) (n h : Fin 16) : k0_pay18 v (ix3 b n h) = maxOf (entries v) b n h * recip448 := by
  pointwise [k0_pay18, k0_pay17]
  rw [negInf]; rfl

/-- The count of a block. -/
theorem ref_count (b : Fin 8) (n h : Fin 16) : k0_pay19 v (ix3 b n h) = ((min (rank (maxOf (entries v) b n h * recip448)) 254 : ℕ) : EReal) := by
  pointwise [k0_pay19]
  rw [ref_quot, count_at]

/-- The exponents from the quotients and the counts. -/
theorem ref_select (y c z : FVec Ideal S8x16x16 .f32) (i : S8x16x16.Idx) (hc : c i = ((min (rank (y i)) 254 : ℕ) : EReal)) (hz : z i = 0) :
    k0_pay21 y c z i = (((expo (y i) : ℤ) : ℝ) : EReal) := by
  refine Eq.trans ?_ (select_expo (y i) (c i) (z i) hc hz)
  rw [← Ideal.ofBits_zero_f32]; rfl

/-- The first input's exponents are cut at another place. -/
theorem ref_x : k0_pay3 v = k0_pay21 (k0_pay18 v) (k0_pay19 v) k0_pay20 := rfl

/-- So are the second input's. -/
theorem ref_k : k0_pay10 v = k0_pay21 (k0_pay18 v) (k0_pay19 v) k0_pay20 := rfl

/-- The exponents of an input's blocks. -/
theorem ref_expo_at (b : Fin 8) (n h : Fin 16) :
    k0_pay21 (k0_pay18 v) (k0_pay19 v) k0_pay20 (ix3 b n h) = (((expoOf (entries v) b n h : ℤ) : ℝ) : EReal) := by
  rw [ref_select _ _ _ _ (by rw [ref_count, ref_quot]) (by show Ideal.ofBits .f32 0x00000000#32 = 0; exact Ideal.ofBits_zero_f32), ref_quot]
  rfl

/-- An index of three axes, from its coordinates. -/
theorem ix3_cases {a b c : ℕ} (i : (⟨3, ![a, b, c]⟩ : Shape).Idx) :
    ∃ (x : Fin a) (y : Fin b) (z : Fin c), i = ix3 x y z :=
  ⟨i 0, i 1, i 2, by ext k; fin_cases k <;> rfl⟩

/-- The scales of an input's blocks. -/
theorem ref_scale : k0_pay23 (k0_pay18 v) (k0_pay19 v) k0_pay20 = scaleArr (entries v) := by
  funext i
  obtain ⟨b, n, h, rfl⟩ := ix3_cases (a := 8) (b := 16) (c := 16) i
  refine Eq.trans ?_ (scaleArr_at _ _ b n h rfl rfl rfl).symm
  rw [← exp2_int, ← ref_expo_at]
  rfl

/-- The power that multiplies a block. -/
theorem exp2_neg (e : ℤ) : FloatOps.exp2 (F := Ideal) (φ := .f32) ((0 : EReal) - ((e : ℝ) : EReal)) = pw (-e) := by
  rw [← exp2_int]
  show Ideal.exp2 _ = _
  congr 1
  rw [zero_sub]; push_cast; rfl

/-- The codes of an input, in the layout of its blocks. -/
theorem ref_code_at (b : Fin 8) (n h : Fin 16) (s : Fin 128) (d : Fin 64) :
    k0_pay22 (k0_pay17 v) (k0_pay18 v) (k0_pay19 v) k0_pay20 (ix5 b n s h d) = codeOf (entries v) b n h s d := by
  pointwise [k0_pay22, k0_pay17]
  rw [ref_expo_at, exp2_neg]
  rfl

/-- The codes of an input, transposed. -/
theorem ref_codes : k0_pay24 (k0_pay17 v) (k0_pay18 v) (k0_pay19 v) k0_pay20 = codeArr (entries v) := by
  funext i
  obtain ⟨b, l, r, rfl⟩ := ix3_cases (a := 8) (b := 1024) (c := 2048) i
  refine Eq.trans ?_ (codeArr_at _ _ b ⟨r.val / 128, by omega⟩ ⟨l.val / 64, by omega⟩ ⟨r.val % 128, by omega⟩ ⟨l.val % 64, by omega⟩ rfl
    (show l.val = l.val / 64 * 64 + l.val % 64 by omega) (show r.val = r.val / 128 * 128 + r.val % 128 by omega)).symm
  rw [← ref_code_at]
  pointwise [k0_pay24]

/-- The first input's results. -/
theorem ref_x_codes : k0_pay6 v = codeArr (entries v) := (ref_codes v).symm ▸ rfl
theorem ref_x_scale : k0_pay5 v = scaleArr (entries v) := (ref_scale v).symm ▸ rfl

/-- The second input's results. -/
theorem ref_k_codes : k0_pay14 (k0_pay9 v) (k0_pay11 v) = codeArr (entries v) := (ref_codes v).symm ▸ rfl
theorem ref_k_scale : k0_pay13 (k0_pay10 v) = scaleArr (entries v) := (ref_scale v).symm ▸ rfl

end Cert.Quant
-- ==== Proof.RefArrays.lean ====
/- The reference's arrays of codes and scales, from its arguments. -/
module

public import proofs.«01_k».proof.Proof.RefCodes

@[expose] public section

set_option maxRecDepth 16384

noncomputable section

namespace Cert.Quant

open Idealize.ShloMosaic Idealize.ShloMosaic.TcCoe
open Cert.ReferenceIdeal Cert.ReferenceIdeal.Gen Cert.ReferenceIdeal.Value

variable (a0 a1 a2 : Vec Ideal S8x2048x1024 .bf16)

/-- Reading the whole of an array gives the array. -/
theorem ld_whole (a : Vec Ideal S8x2048x1024 .bf16) : View.ld a r0_0 = a :=
  View.ld_unit_zero (S := S8x2048x1024) hz0 _ a

theorem ref4 : G4 a0 a1 a2 = codeArr (entries a0) := ref_x_codes a0
theorem ref5 : G5 a0 a1 a2 = scaleArr (entries a0) := by
  show k0_pay5 (View.ld a0 r0_0) = _
  rw [ld_whole, ref_x_scale]
theorem ref6 : G6 a0 a1 a2 = codeArr (entries a1) := by
  show k0_pay14 (k0_pay9 (View.ld a1 r0_0)) (k0_pay11 (View.ld a1 r0_0)) = _
  rw [ld_whole, ref_k_codes]
theorem ref7 : G7 a0 a1 a2 = scaleArr (entries a1) := by
  show k0_pay13 (k0_pay10 (View.ld a1 r0_0)) = _
  rw [ld_whole, ref_k_scale]
theorem ref8 : G8 a0 a1 a2 = codeArr (entries a2) := by
  show k0_pay24 (k0_pay17 (View.ld a2 r0_0)) (k0_pay18 (View.ld a2 r0_0)) (k0_pay19 (View.ld a2 r0_0)) k0_pay20 = _
  rw [ld_whole, ref_codes]
theorem ref9 : G9 a0 a1 a2 = scaleArr (entries a2) := by
  show k0_pay23 (k0_pay18 (View.ld a2 r0_0)) (k0_pay19 (View.ld a2 r0_0)) k0_pay20 = _
  rw [ld_whole, ref_scale]

end Cert.Quant
-- ==== Proof.RefAttn.lean ====
/- The reference's attention is the one of the specification. -/
module

public import proofs.«01_k».proof.Proof.RefArrays
public import proofs.«01_k».proof.Proof.Attn

@[expose] public section

set_option maxRecDepth 16384

noncomputable section

namespace Cert.Quant

open Idealize.ShloMosaic Idealize.ShloMosaic.TcCoe
open Cert.ReferenceIdeal Cert.ReferenceIdeal.Gen

section Cuts

variable (v : Vec Ideal S8x2048x1024 .bf16)

/-- A head of a batch. -/
abbrev bh (b : Fin 8) (h : Fin 16) : Fin 128 := ⟨b.val * 16 + h.val, by omega⟩

/-- The codes, one head after another. -/
theorem ref_head (b : Fin 8) (h n : Fin 16) (s : Fin 128) (d : Fin 64) :
    k0_pay25 (k0_pay17 v) (k0_pay18 v) (k0_pay19 v) k0_pay20 (ix3 (bh b h) (tok n s) d) = headOf (entries v) b h n s d := by
  have e : k0_pay25 (k0_pay17 v) (k0_pay18 v) (k0_pay19 v) k0_pay20 (ix3 (bh b h) (tok n s) d)
      = k0_pay22 (k0_pay17 v) (k0_pay18 v) (k0_pay19 v) k0_pay20 (ix5 b n s h d) := by
    pointwise [k0_pay25]
    congr 1
    ext k
    fin_cases k <;> simp [ix5] <;> omega
  rw [e, ref_code_at]
  rfl

/-- The scales, one head after another. -/
theorem ref_scales (b : Fin 8) (h n : Fin 16) :
    k0_pay26 (k0_pay18 v) (k0_pay19 v) k0_pay20 (ix2 (bh b h) n) = scalesOf (entries v) b h n := by
  have e : k0_pay26 (k0_pay18 v) (k0_pay19 v) k0_pay20 (ix2 (bh b h) n)
      = k0_pay23 (k0_pay18 v) (k0_pay19 v) k0_pay20 (ix3 b n h) := by
    pointwise [k0_pay26]
    congr 1
    ext k
    fin_cases k <;> simp [ix3] <;> omega
  rw [e, ref_scale]
  exact scaleArr_at _ _ b n h rfl rfl rfl

end Cuts

section Scores

variable (x : FVec Ideal S128x2048x64 .fp8e4m3) (xs : FVec Ideal S128x16 .f32) (k : FVec Ideal S128x2048x64 .fp8e4m3) (ks : FVec Ideal S128x16 .f32)
  (g : Fin 128)

/-- The codes of a head. -/
abbrev rowsOf (a : FVec Ideal S128x2048x64 .fp8e4m3) (g : Fin 128) : Codes := fun n s d => a (ix3 g (tok n s) d)

/-- The scales of a head. -/
abbrev rowOf (a : FVec Ideal S128x16 .f32) (g : Fin 128) : Fin 16 → EReal := fun n => a (ix2 g n)

theorem ref_score (n : Fin 16) (q : Fin 128) (j : Fin 16) (t : Fin 128) :
    k0_pay27 x xs k ks (ix5 g n q j t) = score (rowsOf x g) (rowsOf k g) (rowOf xs g) (rowOf ks g) n q j t := by
  pointwise [k0_pay27]
  rfl

theorem ref_max (n : Fin 16) (q : Fin 128) :
    k0_pay28 x xs k ks (ix5 g n q 0 0) = rowMax (rowsOf x g) (rowsOf k g) (rowOf xs g) (rowOf ks g) n q := by
  pointwise [k0_pay28]
  rw [negInf]
  simp only [ref_score]
  rfl

theorem ref_prob (s : FVec Ideal S128x16x128x16x128 .f32) (m : FVec Ideal S128x16x128x1x1 .f32) (n : Fin 16) (q : Fin 128) (j : Fin 16) (t : Fin 128) :
    k0_pay29 s m (ix5 g n q j t) = Ideal.exp (s (ix5 g n q j t) - m (ix5 g n q 0 0)) := by
  pointwise [k0_pay29]

theorem ref_denom (s : FVec Ideal S128x16x128x16x128 .f32) (m : FVec Ideal S128x16x128x1x1 .f32) (n : Fin 16) (q : Fin 128) :
    k0_pay30 s m (ix3 g n q) = ∑ j : Fin 16, ∑ t : Fin 128, k0_pay29 s m (ix5 g n q j t) := by
  pointwise [k0_pay30]

/-- The maximum magnitudes of the exponentials of a query and a run of keys. -/
def topArr (p : FVec Ideal S128x16x128x16x128 .f32) : FVec Ideal S128x16x128x16 .f32 :=
  multiReduction .maximumf [4] S128x16x128x16 (absf p) 0xFF800000#32 reduces_S128x16x128x16x128_S128x16x128x16 (.inl rfl) rfl

/-- The quotient of the maximum magnitudes of a run of queries. -/
def quotArr (a : FVec Ideal S128x16x128x16 .f32) : FVec Ideal S128x16x16 .f32 :=
  mulf (multiReduction .maximumf [2] S128x16x16 a 0xFF800000#32 reduces_S128x16x128x16_S128x16x16 (.inl rfl) rfl)
    (broadcast S128x16x16 (Scalar.ofBits .f32 0x3B124925#32))

/-- The counts of powers of two up to the quotients. -/
def countArr (y : FVec Ideal S128x16x16 .f32) : FVec Ideal S128x16x16 .f32 :=
  multiReduction .add [0] S128x16x16 (select
    (cmpf .ole (exp2 (subf (sitofp .f32 (iota .tc S254x128x16x16 32 [0] iota_S254x128x16x16_d0_w32)) (broadcast S254x128x16x16 (Scalar.ofBits .f32 0x42FC0000#32))))
      (broadcastTo S254x128x16x16 (shapeCast S1x128x16x16 y shapeCasts_S128x16x16_S1x128x16x16) broadcasts_S1x128x16x16_S254x128x16x16))
    (broadcast S254x128x16x16 (Scalar.ofBits .f32 0x3F800000#32)) (broadcast S254x128x16x16 (Scalar.ofBits .f32 0x00000000#32))) 0x00000000#32
    reduces_S254x128x16x16_S128x16x16 (.inl rfl) rfl

/-- The exponents from the quotients and the counts. -/
def selArr (y c : FVec Ideal S128x16x16 .f32) : FVec Ideal S128x16x16 .f32 :=
  select (ori (cmpf .oeq c (broadcast S128x16x16 (Scalar.ofBits .f32 0x00000000#32))) (cmpf .oeq y (broadcast S128x16x16 (Scalar.ofBits .f32 0x7F800000#32))))
    (broadcast S128x16x16 (Scalar.ofBits .f32 0x00000000#32)) (subf c (broadcast S128x16x16 (Scalar.ofBits .f32 0x42FC0000#32)))

theorem pay31_eq (s : FVec Ideal S128x16x128x16x128 .f32) (m : FVec Ideal S128x16x128x1x1 .f32) :
    k0_pay31 s m = selArr (quotArr (topArr (k0_pay29 s m))) (countArr (quotArr (topArr (k0_pay29 s m)))) := rfl

theorem topArr_at (p : FVec Ideal S128x16x128x16x128 .f32) (n : Fin 16) (q : Fin 128) (j : Fin 16) :
    topArr p (ix4 g n q j) = Finset.univ.sup fun t : Fin 128 => mag (p (ix5 g n q j t)) := by
  pointwise [topArr]
  rw [negInf]
  rfl

/-- The maximum over a run of queries. -/
theorem runMax_at (a : FVec Ideal S128x16x128x16 .f32) (n j : Fin 16) :
    multiReduction .maximumf [2] S128x16x16 a 0xFF800000#32 reduces_S128x16x128x16_S128x16x16 (.inl rfl) rfl (ix3 g n j)
      = Finset.univ.fold max (Ideal.ofBits .f32 0xFF800000#32) (fun q : Fin 128 => a (ix4 g n q j)) := by
  pointwise []

theorem mulf_recip (x : FVec Ideal S128x16x16 .f32) (i : S128x16x16.Idx) :
    mulf x (broadcast S128x16x16 (Scalar.ofBits .f32 0x3B124925#32)) i = x i * recip448 := rfl

theorem quotArr_at (a : FVec Ideal S128x16x128x16 .f32) (n j : Fin 16) :
    quotArr a (ix3 g n j) = (Finset.univ.sup fun q : Fin 128 => a (ix4 g n q j)) * recip448 := by
  unfold quotArr
  rw [mulf_recip, runMax_at, negInf, fold_max_sup]

theorem countArr_at (y : FVec Ideal S128x16x16 .f32) (n j : Fin 16) :
    countArr y (ix3 g n j) = ((min (rank (y (ix3 g n j))) 254 : ℕ) : EReal) := by
  pointwise [countArr]
  rw [count_at]

theorem selArr_at (y c : FVec Ideal S128x16x16 .f32) (i : S128x16x16.Idx) (hc : c i = ((min (rank (y i)) 254 : ℕ) : EReal)) :
    selArr y c i = (((expo (y i) : ℤ) : ℝ) : EReal) := by
  refine Eq.trans ?_ (select_expo (y i) (c i) 0 hc rfl)
  rw [← Ideal.ofBits_zero_f32]; rfl

/-- The exponents of the exponentials. -/
theorem ref_probExpo (s : FVec Ideal S128x16x128x16x128 .f32) (m : FVec Ideal S128x16x128x1x1 .f32) (n j : Fin 16) :
    k0_pay31 s m (ix3 g n j) = (((expo ((Finset.univ.sup fun q : Fin 128 => Finset.univ.sup fun t : Fin 128 => mag (k0_pay29 s m (ix5 g n q j t))) * recip448) : ℤ) : ℝ) : EReal) := by
  rw [pay31_eq, selArr_at _ _ _ (countArr_at g _ n j), quotArr_at]
  simp only [topArr_at]

theorem ref_probCode (s : FVec Ideal S128x16x128x16x128 .f32) (m : FVec Ideal S128x16x128x1x1 .f32) (n j : Fin 16) (q t : Fin 128) :
    k0_pay33 s m (ix5 g j n q t) = clip (k0_pay29 s m (ix5 g n q j t) * FloatOps.exp2 (F := Ideal) (φ := .f32) (0 - k0_pay31 s m (ix3 g n j))) := by
  pointwise [k0_pay33]
  rfl

end Scores

/-- Attention from its codes, its scales, its exponentials and their sums. -/
theorem ref_out (v : FVec Ideal S128x2048x64 .fp8e4m3) (vs : FVec Ideal S128x16 .f32) (l : FVec Ideal S128x16x128 .f32) (ps : FVec Ideal S128x16x16 .f32)
    (pc : FVec Ideal S128x16x16x128x128 .fp8e4m3) (b : Fin 8) (h n : Fin 16) (q : Fin 128) (d : Fin 64) :
    k0_pay1 v vs l ps pc (ix3 b (tok n q) (col h d))
      = Ideal.div (∑ j : Fin 16, (∑ t : Fin 128, pc (ix5 (bh b h) j n q t) * v (ix3 (bh b h) (tok j t) d)) * (ps (ix3 (bh b h) n j) * vs (ix2 (bh b h) j)))
          (l (ix3 (bh b h) n q)) := by
  have e1 : ∀ p, (⟨b.val * 16 + (h.val * 64 + d.val) / 64, p⟩ : Fin 128) = bh b h := fun p => Fin.ext (by simp only []; omega)
  have e2 : ∀ (x : Fin 16) p, (⟨((b.val * 16 + (h.val * 64 + d.val) / 64) * 16 + x.val) / 16, p⟩ : Fin 128) = bh b h := fun x p => Fin.ext (by simp only []; omega)
  have e3 : ∀ (x : Fin 16) (t : Fin 128) p, (⟨((b.val * 16 + (h.val * 64 + d.val) / 64) * 16 + x.val) % 16 * 128 + t.val, p⟩ : Fin 2048) = tok x t :=
    fun x t p => Fin.ext (by simp only []; omega)
  have e4 : ∀ p, (⟨(h.val * 64 + d.val) % 64, p⟩ : Fin 64) = d := fun p => Fin.ext (by simp only []; omega)
  pointwise [k0_pay1]
  simp only [e1, e2, e3, e4]

/-- The reference's attention over the codes and scales of every head. -/
theorem ref_attn (x : FVec Ideal S128x2048x64 .fp8e4m3) (xs : FVec Ideal S128x16 .f32) (k : FVec Ideal S128x2048x64 .fp8e4m3) (ks : FVec Ideal S128x16 .f32)
    (v : FVec Ideal S128x2048x64 .fp8e4m3) (vs : FVec Ideal S128x16 .f32) (b : Fin 8) (h n : Fin 16) (q : Fin 128) (d : Fin 64) :
    k0_pay1 v vs (k0_pay30 (k0_pay27 x xs k ks) (k0_pay28 x xs k ks)) (k0_pay32 (k0_pay27 x xs k ks) (k0_pay28 x xs k ks))
        (k0_pay33 (k0_pay27 x xs k ks) (k0_pay28 x xs k ks)) (ix3 b (tok n q) (col h d))
      = attn (rowsOf x (bh b h)) (rowsOf k (bh b h)) (rowsOf v (bh b h)) (rowOf xs (bh b h)) (rowOf ks (bh b h)) (rowOf vs (bh b h)) n q d := by
  have ep : ∀ (j : Fin 16) (q t : Fin 128), k0_pay29 (k0_pay27 x xs k ks) (k0_pay28 x xs k ks) (ix5 (bh b h) n q j t)
      = prob (rowsOf x (bh b h)) (rowsOf k (bh b h)) (rowOf xs (bh b h)) (rowOf ks (bh b h)) n q j t := fun j q t => by
    rw [ref_prob, ref_score, ref_max]; rfl
  have ee : ∀ j : Fin 16, k0_pay31 (k0_pay27 x xs k ks) (k0_pay28 x xs k ks) (ix3 (bh b h) n j)
      = (((probExpo (rowsOf x (bh b h)) (rowsOf k (bh b h)) (rowOf xs (bh b h)) (rowOf ks (bh b h)) n j : ℤ) : ℝ) : EReal) := fun j => by
    rw [ref_probExpo]; simp only [ep]; rfl
  have es : ∀ j : Fin 16, k0_pay32 (k0_pay27 x xs k ks) (k0_pay28 x xs k ks) (ix3 (bh b h) n j)
      = pw (probExpo (rowsOf x (bh b h)) (rowsOf k (bh b h)) (rowOf xs (bh b h)) (rowOf ks (bh b h)) n j) := fun j => by
    rw [← exp2_int, ← ee]; rfl
  rw [ref_out]
  unfold attn
  congr 1
  · refine Finset.sum_congr rfl fun j _ => ?_
    rw [es]
    congr 1
    refine Finset.sum_congr rfl fun t _ => ?_
    rw [ref_probCode, ep, ee, exp2_neg]
    rfl
  · rw [ref_denom]
    simp only [ep]
    rfl

end Cert.Quant
-- ==== Proof.RefY.lean ====
/- The reference's first result is the attention of the specification. -/
module

public import proofs.«01_k».proof.Proof.RefAttn

@[expose] public section

set_option maxRecDepth 16384

noncomputable section

namespace Cert.Quant

open Idealize.ShloMosaic Idealize.ShloMosaic.TcCoe
open Cert.ReferenceIdeal Cert.ReferenceIdeal.Gen Cert.ReferenceIdeal.Value

/-- The codes of an input, one head after another. -/
def headArr (v : Vec Ideal S8x2048x1024 .bf16) : FVec Ideal S128x2048x64 .fp8e4m3 := k0_pay25 (k0_pay17 v) (k0_pay18 v) (k0_pay19 v) k0_pay20

/-- The scales of an input, one head after another. -/
def headScale (v : Vec Ideal S8x2048x1024 .bf16) : FVec Ideal S128x16 .f32 := k0_pay26 (k0_pay18 v) (k0_pay19 v) k0_pay20

theorem head_x (v : Vec Ideal S8x2048x1024 .bf16) : k0_pay7 (k0_pay4 v) = headArr v := rfl
theorem headScale_x (v : Vec Ideal S8x2048x1024 .bf16) : k0_pay8 (k0_pay5 v) = headScale v := rfl
theorem head_k (v : Vec Ideal S8x2048x1024 .bf16) : k0_pay15 (k0_pay9 v) (k0_pay11 v) = headArr v := rfl
theorem headScale_k (v : Vec Ideal S8x2048x1024 .bf16) : k0_pay16 (k0_pay10 v) = headScale v := rfl

theorem rows_head (v : Vec Ideal S8x2048x1024 .bf16) (b : Fin 8) (h : Fin 16) : rowsOf (headArr v) (bh b h) = headOf (entries v) b h := by
  funext n s d
  exact ref_head v b h n s d

theorem row_head (v : Vec Ideal S8x2048x1024 .bf16) (b : Fin 8) (h : Fin 16) : rowOf (headScale v) (bh b h) = scalesOf (entries v) b h := by
  funext n
  exact ref_scales v b h n

variable (a0 a1 a2 : Vec Ideal S8x2048x1024 .bf16)

/-- The first result from the codes and scales of the heads. -/
theorem ref3_cut : G3 a0 a1 a2 = k0_pay1 (headArr a2) (headScale a2)
    (k0_pay30 (k0_pay27 (headArr a0) (headScale a0) (headArr a1) (headScale a1)) (k0_pay28 (headArr a0) (headScale a0) (headArr a1) (headScale a1)))
    (k0_pay32 (k0_pay27 (headArr a0) (headScale a0) (headArr a1) (headScale a1)) (k0_pay28 (headArr a0) (headScale a0) (headArr a1) (headScale a1)))
    (k0_pay33 (k0_pay27 (headArr a0) (headScale a0) (headArr a1) (headScale a1)) (k0_pay28 (headArr a0) (headScale a0) (headArr a1) (headScale a1))) := by
  have e : G3 a0 a1 a2 = k0_pay1 (headArr (View.ld a2 r0_0)) (headScale (View.ld a2 r0_0))
    (k0_pay30 (k0_pay27 (k0_pay7 (k0_pay4 (View.ld a0 r0_0))) (k0_pay8 (k0_pay5 (View.ld a0 r0_0))) (k0_pay15 (k0_pay9 (View.ld a1 r0_0)) (k0_pay11 (View.ld a1 r0_0))) (k0_pay16 (k0_pay10 (View.ld a1 r0_0))))
      (k0_pay28 (k0_pay7 (k0_pay4 (View.ld a0 r0_0))) (k0_pay8 (k0_pay5 (View.ld a0 r0_0))) (k0_pay15 (k0_pay9 (View.ld a1 r0_0)) (k0_pay11 (View.ld a1 r0_0))) (k0_pay16 (k0_pay10 (View.ld a1 r0_0)))))
    (k0_pay32 (k0_pay27 (k0_pay7 (k0_pay4 (View.ld a0 r0_0))) (k0_pay8 (k0_pay5 (View.ld a0 r0_0))) (k0_pay15 (k0_pay9 (View.ld a1 r0_0)) (k0_pay11 (View.ld a1 r0_0))) (k0_pay16 (k0_pay10 (View.ld a1 r0_0))))
      (k0_pay28 (k0_pay7 (k0_pay4 (View.ld a0 r0_0))) (k0_pay8 (k0_pay5 (View.ld a0 r0_0))) (k0_pay15 (k0_pay9 (View.ld a1 r0_0)) (k0_pay11 (View.ld a1 r0_0))) (k0_pay16 (k0_pay10 (View.ld a1 r0_0)))))
    (k0_pay33 (k0_pay27 (k0_pay7 (k0_pay4 (View.ld a0 r0_0))) (k0_pay8 (k0_pay5 (View.ld a0 r0_0))) (k0_pay15 (k0_pay9 (View.ld a1 r0_0)) (k0_pay11 (View.ld a1 r0_0))) (k0_pay16 (k0_pay10 (View.ld a1 r0_0))))
      (k0_pay28 (k0_pay7 (k0_pay4 (View.ld a0 r0_0))) (k0_pay8 (k0_pay5 (View.ld a0 r0_0))) (k0_pay15 (k0_pay9 (View.ld a1 r0_0)) (k0_pay11 (View.ld a1 r0_0))) (k0_pay16 (k0_pay10 (View.ld a1 r0_0))))) := rfl
  rw [e]
  simp only [ld_whole, head_x, headScale_x, head_k, headScale_k]

theorem ref3 : G3 a0 a1 a2 = attnArr (entries a0) (entries a1) (entries a2) := by
  rw [ref3_cut]
  funext i
  obtain ⟨b, s, l, rfl⟩ := ix3_cases (a := 8) (b := 2048) (c := 1024) i
  have es : s = tok ⟨s.val / 128, by omega⟩ ⟨s.val % 128, by omega⟩ := Fin.ext (by simp only []; omega)
  have el : l = col ⟨l.val / 64, by omega⟩ ⟨l.val % 64, by omega⟩ := Fin.ext (by simp only []; omega)
  rw [es, el, ref_attn, rows_head, rows_head, rows_head, row_head, row_head, row_head]
  exact (attnArr_at _ _ _ _ b ⟨s.val / 128, by omega⟩ ⟨l.val / 64, by omega⟩ ⟨s.val % 128, by omega⟩ ⟨l.val % 64, by omega⟩ rfl rfl rfl).symm

end Cert.Quant
-- ==== Proof.lean ====
module

public import proofs.«01_k».proof.Defs
public import proofs.«01_k».proof.Proof.Machine.Frame
public import proofs.«01_k».proof.Proof.Exact.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Arrays
public import proofs.«01_k».proof.Proof.ArrayY
public import proofs.«01_k».proof.Proof.RefArrays
public import proofs.«01_k».proof.Proof.RefY
public import Idealize.ShloMosaic.Adequacy
public import Idealize.ShloMosaic.Init

@[expose] public section

noncomputable section

namespace Cert.Proof

open Idealize.ShloMosaic Idealize.SL.Sem Cert.Kernel

/-- Both programs leave the same attention, codes and scales. -/
theorem equal : Cert.algebraic_KernelIdeal_ReferenceIdeal (hKernelIdeal := Cert.KernelIdeal.Gen.facts)
    (hReferenceIdeal := Cert.ReferenceIdeal.Gen.facts) := by
  intro m g m' g' _ hargs
  let X0 := fun c : Dev Cert.KernelIdeal.nD => m ((c.tc : Thread Cert.KernelIdeal.nD Cert.KernelIdeal.τ).loc Cert.KernelIdeal.main_arg0)
  let X1 := fun c : Dev Cert.KernelIdeal.nD => m ((c.tc : Thread Cert.KernelIdeal.nD Cert.KernelIdeal.τ).loc Cert.KernelIdeal.main_arg1)
  let X2 := fun c : Dev Cert.KernelIdeal.nD => m ((c.tc : Thread Cert.KernelIdeal.nD Cert.KernelIdeal.τ).loc Cert.KernelIdeal.main_arg2)
  refine ⟨fun c => Cert.Quant.attnArr (Cert.Quant.entries (X0 c)) (Cert.Quant.entries (X1 c)) (Cert.Quant.entries (X2 c)),
    fun c => Cert.Quant.codeArr (Cert.Quant.entries (X0 c)), fun c => Cert.Quant.scaleArr (Cert.Quant.entries (X0 c)),
    fun c => Cert.Quant.codeArr (Cert.Quant.entries (X1 c)), fun c => Cert.Quant.scaleArr (Cert.Quant.entries (X1 c)),
    fun c => Cert.Quant.codeArr (Cert.Quant.entries (X2 c)), fun c => Cert.Quant.scaleArr (Cert.Quant.entries (X2 c)), ?_, ?_⟩
  · refine (θ_run Cert.KernelIdeal.defs _ _).mono (fun r h c => ?_) (Cert.KernelIdeal.Value.run_blocks m g)
    obtain ⟨h0, h1, h2, h3, h4, h5, h6, k0, k1, k2⟩ := h c
    exact ⟨h0.trans (Cert.Quant.arr_y m c), h1.trans (Cert.Quant.arr_codes_x m c), h2.trans (Cert.Quant.arr_scale_x m c), h3.trans (Cert.Quant.arr_codes_k m c),
      h4.trans (Cert.Quant.arr_scale_k m c), h5.trans (Cert.Quant.arr_codes_v m c), h6.trans (Cert.Quant.arr_scale_v m c), k0, k1, k2⟩
  · refine (θ_run Cert.ReferenceIdeal.defs _ _).mono (fun r h c => ?_) (Cert.ReferenceIdeal.Value.run m' g')
    obtain ⟨h0, h1, h2, h3, h4, h5, h6, k0, k1, k2⟩ := h c
    obtain ⟨e0, e1, e2⟩ := hargs c
    have f0 : X0 c = m' ((c.tc : Thread Cert.ReferenceIdeal.nD Cert.ReferenceIdeal.τ).loc Cert.ReferenceIdeal.main_arg0) := e0.symm
    have f1 : X1 c = m' ((c.tc : Thread Cert.ReferenceIdeal.nD Cert.ReferenceIdeal.τ).loc Cert.ReferenceIdeal.main_arg1) := e1.symm
    have f2 : X2 c = m' ((c.tc : Thread Cert.ReferenceIdeal.nD Cert.ReferenceIdeal.τ).loc Cert.ReferenceIdeal.main_arg2) := e2.symm
    dsimp only
    rw [f0, f1, f2]
    exact ⟨h0.trans (Cert.Quant.ref3 _ _ _), h1.trans (Cert.Quant.ref4 _ _ _), h2.trans (Cert.Quant.ref5 _ _ _), h3.trans (Cert.Quant.ref6 _ _ _),
      h4.trans (Cert.Quant.ref7 _ _ _), h5.trans (Cert.Quant.ref8 _ _ _), h6.trans (Cert.Quant.ref9 _ _ _), k0, k1, k2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal⟩

end Cert.Proof

end
